-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S8192x512 : Shape := ⟨2, ![8192, 512]⟩
abbrev S512x2048 : Shape := ⟨2, ![512, 2048]⟩
abbrev S2048 : Shape := ⟨1, ![2048]⟩
abbrev S9 : Shape := ⟨1, ![9]⟩
abbrev S_ : Shape := ⟨0, ![]⟩

class Facts : Prop where
  bcast_S_S8192x512 : S_.BroadcastsInDim S8192x512 (![] : Fin 0 → Fin S8192x512.rank)
  bcast_S_S512x2048 : S_.BroadcastsInDim S512x2048 (![] : Fin 0 → Fin S512x2048.rank)
  bcast_S_S2048 : S_.BroadcastsInDim S2048 (![] : Fin 0 → Fin S2048.rank)
  bcast_S_S9 : S_.BroadcastsInDim S9 (![] : Fin 0 → Fin S9.rank)

variable [Facts]

def fn_part1 {F : FTy → Type} [FloatOps F] (main_arg7 : IVec S9 32) (main_v2 : IVec S8192x512 1) (main_v5 : IVec S512x2048 1) (main_v8 : IVec S2048 1) (main_v11 : IVec S512x2048 1) (main_v14 : IVec S2048 1) (main_v17 : IVec S512x2048 1) : IVec S8192x512 1 × IVec S512x2048 1 × IVec S2048 1 × IVec S512x2048 1 × IVec S2048 1 × IVec S512x2048 1 × IVec S9 1 :=
  let main_v18 : IVec S9 32 := iotaInDim S9 32 0
  let main_c : IVec S_ 32 := constantI S_ 32 1024#32
  let main_v19 : IVec S9 32 := broadcastInDim S9 ![] bcast_S_S9 main_c
  let main_v20 : IVec S9 32 := muli main_v18 main_v19
  let main_v21 : IVec S9 1 := cmpi .eq main_arg7 main_v20
  (main_v2, main_v5, main_v8, main_v11, main_v14, main_v17, main_v21)

def fn {F : FTy → Type} [FloatOps F] (main_arg0 : FVec F S8192x512 .f32) (main_arg1 : FVec F S512x2048 .f32) (main_arg2 : FVec F S2048 .f32) (main_arg3 : FVec F S512x2048 .f32) (main_arg4 : FVec F S2048 .f32) (main_arg5 : FVec F S512x2048 .f32) (main_arg6 : FVec F S2048 .f32) (main_arg7 : IVec S9 32) : IVec S8192x512 1 × IVec S512x2048 1 × IVec S2048 1 × IVec S512x2048 1 × IVec S2048 1 × IVec S512x2048 1 × IVec S9 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S512x2048 .f32 := Host.absf main_arg3
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S512x2048 .f32 := Host.absf main_arg5
  let main_cst_4 : FVec F S_ .f32 := constant S_ .f32 0x7F800000#32
  let main_v16 : FVec F S512x2048 .f32 := broadcastInDim S512x2048 ![] bcast_S_S512x2048 main_cst_4
  let main_v17 : IVec S512x2048 1 := cmpf .olt main_v15 main_v16
  fn_part1 (F := F) main_arg7 main_v2 main_v5 main_v8 main_v11 main_v14 main_v17
-- ==== Kernel.lean ====
abbrev S8192x512 : Shape := ⟨2, ![8192, 512]⟩
abbrev S512x2048 : Shape := ⟨2, ![512, 2048]⟩
abbrev S2048 : Shape := ⟨1, ![2048]⟩
abbrev S9 : Shape := ⟨1, ![9]⟩
abbrev S1x2048 : Shape := ⟨2, ![1, 2048]⟩
abbrev S8x1x2048 : Shape := ⟨3, ![8, 1, 2048]⟩
abbrev S2048x512 : Shape := ⟨2, ![2048, 512]⟩
abbrev S64x512 : Shape := ⟨2, ![64, 512]⟩
abbrev S512x256 : Shape := ⟨2, ![512, 256]⟩
abbrev S2048x256 : Shape := ⟨2, ![2048, 256]⟩
abbrev S1x256 : Shape := ⟨2, ![1, 256]⟩
abbrev S2048x1 : Shape := ⟨2, ![2048, 1]⟩
abbrev S2048x8 : Shape := ⟨2, ![2048, 8]⟩
abbrev S1024x8 : Shape := ⟨2, ![1024, 8]⟩
abbrev S8 : Shape := ⟨1, ![8]⟩
abbrev S1x8 : Shape := ⟨2, ![1, 8]⟩
abbrev S1024x512 : Shape := ⟨2, ![1024, 512]⟩
abbrev S8x512 : Shape := ⟨2, ![8, 512]⟩
abbrev S64x2048 : Shape := ⟨2, ![64, 2048]⟩
abbrev S1x1x256 : Shape := ⟨3, ![1, 1, 256]⟩
abbrev S8x2048 : Shape := ⟨2, ![8, 2048]⟩

abbrev nBuf : Space → Nat
  | .hbm => 13
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S2048, .f32⟩
  | .hbm, ⟨3, _⟩ => ⟨S512x2048, .f32⟩
  | .hbm, ⟨4, _⟩ => ⟨S2048, .f32⟩
  | .hbm, ⟨5, _⟩ => ⟨S512x2048, .f32⟩
  | .hbm, ⟨6, _⟩ => ⟨S2048, .f32⟩
  | .hbm, ⟨7, _⟩ => ⟨S9, .i32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8x1x2048, .f32⟩
  | .hbm, ⟨12, _⟩ => ⟨S8x2048, .f32⟩
  | .local _ .vmem, ⟨0, _⟩ => ⟨S2048x512, .f32⟩
  | .local _ .vmem, ⟨1, _⟩ => ⟨S2048x512, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S8x1x2048, .f32⟩
  | .local _ .vmem, ⟨9, _⟩ => ⟨S512x2048, .bf16⟩
  | .local _ .vmem, ⟨10, _⟩ => ⟨S512x2048, .bf16⟩
  | .local _ .vmem, ⟨11, _⟩ => ⟨S64x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![4], ![false]⟩

def k0_off1 (i : grid0.Coords) (c0_i32_87 : BitVec 32) : Fin 2 → Nat :=
  let arg0 : BitVec 32 := BitVec.ofNat 32 (i 0).val
  let c2_i32 : BitVec 32 := 2#32
  let v142 : BitVec 32 := Scalar.muli arg0 c2_i32
  let v143 : BitVec 32 := Scalar.addi v142 c0_i32_87
  let c8_i32 : BitVec 32 := 8#32
  let v144 : BitVec 32 := Scalar.muli v143 c8_i32
  let v145 : Index := Scalar.indexCast v144
  let c0_88 : Index := 0#32
  ![v145.toNat, 0]
def k0_cond2 (i : grid0.Coords) : BitVec 1 :=
  let arg0 : BitVec 32 := BitVec.ofNat 32 (i 0).val
  let c3_i32 : BitVec 32 := 3#32
  let v170 : BitVec 1 := Scalar.cmpi .eq arg0 c3_i32
  let v171 : BitVec 32 := Scalar.extui v170
  let c0_i32_96 : BitVec 32 := 0#32
  let v172 : BitVec 1 := Scalar.cmpi .ne v171 c0_i32_96
  v172

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x512 : Shape := ⟨2, ![8192, 512]⟩
abbrev S512x2048 : Shape := ⟨2, ![512, 2048]⟩
abbrev S2048 : Shape := ⟨1, ![2048]⟩
abbrev S9 : Shape := ⟨1, ![9]⟩
abbrev S8 : Shape := ⟨1, ![8]⟩
abbrev S1x8 : Shape := ⟨2, ![1, 8]⟩
abbrev S8192 : Shape := ⟨1, ![8192]⟩
abbrev S8192x1 : Shape := ⟨2, ![8192, 1]⟩
abbrev S8192x8 : Shape := ⟨2, ![8192, 8]⟩
abbrev S_ : Shape := ⟨0, ![]⟩
abbrev S8192x2048 : Shape := ⟨2, ![8192, 2048]⟩
abbrev S1x2048 : Shape := ⟨2, ![1, 2048]⟩
abbrev S8192x8x256 : Shape := ⟨3, ![8192, 8, 256]⟩
abbrev S8192x8x1 : Shape := ⟨3, ![8192, 8, 1]⟩
abbrev S8192x1x8 : Shape := ⟨3, ![8192, 1, 8]⟩
abbrev S8192x8x8 : Shape := ⟨3, ![8192, 8, 8]⟩
abbrev S8x8 : Shape := ⟨2, ![8, 8]⟩
abbrev S8x8x256 : Shape := ⟨3, ![8, 8, 256]⟩
abbrev S8x2048 : Shape := ⟨2, ![8, 2048]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S2048, .f32⟩
  | .hbm, ⟨3, _⟩ => ⟨S512x2048, .f32⟩
  | .hbm, ⟨4, _⟩ => ⟨S2048, .f32⟩
  | .hbm, ⟨5, _⟩ => ⟨S512x2048, .f32⟩
  | .hbm, ⟨6, _⟩ => ⟨S2048, .f32⟩
  | .hbm, ⟨7, _⟩ => ⟨S9, .i32⟩
  | .hbm, ⟨8, _⟩ => ⟨S8, .i32⟩
  | .hbm, ⟨9, _⟩ => ⟨S1x8, .i32⟩
  | .hbm, ⟨10, _⟩ => ⟨S8192, .i32⟩
  | .hbm, ⟨11, _⟩ => ⟨S8192x1, .i32⟩
  | .hbm, ⟨12, _⟩ => ⟨S8192x8, .i32⟩
  | .hbm, ⟨13, _⟩ => ⟨S8192x8, .i32⟩
  | .hbm, ⟨14, _⟩ => ⟨S8192x8, .i1⟩
  | .hbm, ⟨15, _⟩ => ⟨S8192x8, .i32⟩
  | .hbm, ⟨16, _⟩ => ⟨S_, .i32⟩
  | .hbm, ⟨17, _⟩ => ⟨S8192, .i32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x8x256, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x8x256, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x8x256, .f32⟩
  | .hbm, ⟨33, _⟩ => ⟨S8192x8x256, .f32⟩
  | .hbm, ⟨34, _⟩ => ⟨S_, .f32⟩
  | .hbm, ⟨35, _⟩ => ⟨S8192x8, .f32⟩
  | .hbm, ⟨36, _⟩ => ⟨S_, .f32⟩
  | .hbm, ⟨37, _⟩ => ⟨S8192x8, .f32⟩
  | .hbm, ⟨38, _⟩ => ⟨S8192x8, .f32⟩
  | .hbm, ⟨39, _⟩ => ⟨S8192x1, .i32⟩
  | .hbm, ⟨40, _⟩ => ⟨S8, .i32⟩
  | .hbm, ⟨41, _⟩ => ⟨S1x8, .i32⟩
  | .hbm, ⟨42, _⟩ => ⟨S8192x8, .i32⟩
  | .hbm, ⟨43, _⟩ => ⟨S8192x8, .i32⟩
  | .hbm, ⟨44, _⟩ => ⟨S8192x8, .i1⟩
  | .hbm, ⟨45, _⟩ => ⟨S8192x8x1, .i1⟩
  | .hbm, ⟨46, _⟩ => ⟨S8192x1x8, .f32⟩
  | .hbm, ⟨47, _⟩ => ⟨S_, .f32⟩
  | .hbm, ⟨48, _⟩ => ⟨S_, .f32⟩
  | .hbm, ⟨49, _⟩ => ⟨S8192x8x8, .i1⟩
  | .hbm, ⟨50, _⟩ => ⟨S8192x8x8, .f32⟩
  | .hbm, ⟨51, _⟩ => ⟨S8192x8x8, .f32⟩
  | .hbm, ⟨52, _⟩ => ⟨S8192x8x8, .f32⟩
  | .hbm, ⟨53, _⟩ => ⟨S_, .f32⟩
  | .hbm, ⟨54, _⟩ => ⟨S8x8, .f32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S8192x1, .i32⟩
  | .hbm, ⟨63, _⟩ => ⟨S8192x8, .f32⟩
  | .hbm, ⟨64, _⟩ => ⟨S8192x8, .f32⟩
  | .hbm, ⟨65, _⟩ => ⟨S8192x8, .f32⟩
  | .hbm, ⟨66, _⟩ => ⟨S_, .f32⟩
  | .hbm, ⟨67, _⟩ => ⟨S8x8, .f32⟩
  | .hbm, ⟨68, _⟩ => ⟨S8192x1, .i32⟩
  | .hbm, ⟨69, _⟩ => ⟨S8x8, .f32⟩
  | .hbm, ⟨70, _⟩ => ⟨S_, .i32⟩
  | .hbm, ⟨71, _⟩ => ⟨S8192, .i32⟩
  | .hbm, ⟨72, _⟩ => ⟨S8192, .i1⟩
  | .hbm, ⟨73, _⟩ => ⟨S_, .i32⟩
  | .hbm, ⟨74, _⟩ => ⟨S8192, .i32⟩
  | .hbm, ⟨75, _⟩ => ⟨S8192, .i32⟩
  | .hbm, ⟨76, _⟩ => ⟨S8192, .i32⟩
  | .hbm, ⟨77, _⟩ => ⟨S8192x1, .i32⟩
  | .hbm, ⟨78, _⟩ => ⟨S8192x8, .f32⟩
  | .hbm, ⟨79, _⟩ => ⟨S8192x8, .f32⟩
  | .hbm, ⟨80, _⟩ => ⟨S8192x8x1, .f32⟩
  | .hbm, ⟨81, _⟩ => ⟨S8192x8x256, .f32⟩
  | .hbm, ⟨82, _⟩ => ⟨S8192x8x256, .f32⟩
  | .hbm, ⟨83, _⟩ => ⟨S_, .f32⟩
  | .hbm, ⟨84, _⟩ => ⟨S8x8x256, .f32⟩
  | .hbm, ⟨85, _⟩ => ⟨S8192x1, .i32⟩
  | .hbm, ⟨86, _⟩ => ⟨S8x8x256, .f32⟩
  | .hbm, ⟨87, _⟩ => ⟨S8x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_c_3 : Ref sig .tc := ⟨.hbm, 55, rfl⟩
abbrev main_v38 : Ref sig .tc := ⟨.hbm, 56, rfl⟩
abbrev main_v39 : Ref sig .tc := ⟨.hbm, 57, rfl⟩
abbrev main_c_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_6 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_8 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Proof.Body.Base.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch is taken at a grid point: its coordinate is zero. -/
abbrev cond0_0 (i : grid0.Coords) : Prop :=
  (Scalar.cmpi .ne (Scalar.extui (Scalar.cmpi .eq (BitVec.ofNat 32 (i 0).val) 0#32)) 0#32) = 1#1

/-- The body's second branch is taken at a grid point: its coordinate is the last. -/
abbrev cond0_1 (i : grid0.Coords) : Prop := k0_cond2 i = 1#1

/-- A point's coordinate is its position. -/
theorem coord_val (t : Fin cfg0.N) : (grid0.coords t 0).val = t.val := by
  have ht : t.val < 4 := Nat.lt_of_lt_of_eq t.isLt N_0
  have e0 : (grid0.coords t 0).val = t.val / 1 % 4 := Pipeline.Grid.coords_val t 0 (by decide) rfl
  rw [e0]; omega

/-- The first branch is taken at the first point only. -/
theorem first_iff (t : Fin cfg0.N) : cond0_0 (grid0.coords t) ↔ t.val = 0 := by
  have ht : t.val < 4 := Nat.lt_of_lt_of_eq t.isLt N_0
  simp only [cond0_0, coord_val]
  word_cmp

/-- The second branch is taken at the last point only. -/
theorem last_iff (t : Fin cfg0.N) : cond0_1 (grid0.coords t) ↔ t.val = 3 := by
  have ht : t.val < 4 := Nat.lt_of_lt_of_eq t.isLt N_0
  simp only [cond0_1, k0_cond2, coord_val]
  word_cmp

/-- Window 0's staging buffer at a point. -/
abbrev mem0 (t : Fin cfg0.N) : Memref sig .tc .vmem S2048x512 .f32 := win0_0.stage (cfg0.slots t 0)
/-- Window 0's staging buffer is a whole buffer. -/
theorem mem0_whole (t : Fin cfg0.N) : (mem0 t).IsWhole := hstage0_0 ((cfg0.slots t 0).cast nbuf0_0)
/-- Window 1's staging buffer at a point. -/
abbrev mem1 (t : Fin cfg0.N) : Memref sig .tc .vmem S512x2048 .f32 := win0_1.stage (cfg0.slots t 1)
/-- Window 1's staging buffer is a whole buffer. -/
theorem mem1_whole (t : Fin cfg0.N) : (mem1 t).IsWhole := hstage0_1 ((cfg0.slots t 1).cast nbuf0_1)
/-- Window 2's staging buffer at a point. -/
abbrev mem2 (t : Fin cfg0.N) : Memref sig .tc .vmem S512x2048 .f32 := win0_2.stage (cfg0.slots t 2)
/-- Window 2's staging buffer is a whole buffer. -/
theorem mem2_whole (t : Fin cfg0.N) : (mem2 t).IsWhole := hstage0_2 ((cfg0.slots t 2).cast nbuf0_2)
/-- Window 3's staging buffer at a point. -/
abbrev mem3 (t : Fin cfg0.N) : Memref sig .tc .vmem S512x2048 .f32 := win0_3.stage (cfg0.slots t 3)
/-- Window 3's staging buffer is a whole buffer. -/
theorem mem3_whole (t : Fin cfg0.N) : (mem3 t).IsWhole := hstage0_3 ((cfg0.slots t 3).cast nbuf0_3)
/-- Window 4's staging buffer at a point. -/
abbrev mem4 (t : Fin cfg0.N) : Memref sig .tc .vmem S1x2048 .f32 := win0_4.stage (cfg0.slots t 4)
/-- Window 4's staging buffer is a whole buffer. -/
theorem mem4_whole (t : Fin cfg0.N) : (mem4 t).IsWhole := hstage0_4 ((cfg0.slots t 4).cast nbuf0_4)
/-- Window 5's staging buffer at a point. -/
abbrev mem5 (t : Fin cfg0.N) : Memref sig .tc .vmem S1x2048 .f32 := win0_5.stage (cfg0.slots t 5)
/-- Window 5's staging buffer is a whole buffer. -/
theorem mem5_whole (t : Fin cfg0.N) : (mem5 t).IsWhole := hstage0_5 ((cfg0.slots t 5).cast nbuf0_5)
/-- Window 6's staging buffer at a point. -/
abbrev mem6 (t : Fin cfg0.N) : Memref sig .tc .vmem S1x2048 .f32 := win0_6.stage (cfg0.slots t 6)
/-- Window 6's staging buffer is a whole buffer. -/
theorem mem6_whole (t : Fin cfg0.N) : (mem6 t).IsWhole := hstage0_6 ((cfg0.slots t 6).cast nbuf0_6)
/-- Window 7's staging buffer at a point. -/
abbrev mem7 (t : Fin cfg0.N) : Memref sig .tc .vmem S8x1x2048 .f32 := win0_7.stage (cfg0.slots t 7)
/-- Window 7's staging buffer is a whole buffer. -/
theorem mem7_whole (t : Fin cfg0.N) : (mem7 t).IsWhole := hstage0_7 ((cfg0.slots t 7).cast nbuf0_7)
/-- Scratch buffer 0 of the kernel. -/
abbrev scr0 : Memref sig .tc .vmem S512x2048 .bf16 := Memref.whole cc0_scratch0
/-- Scratch buffer 1 of the kernel. -/
abbrev scr1 : Memref sig .tc .vmem S512x2048 .bf16 := Memref.whole cc0_scratch1
/-- Scratch buffer 2 of the kernel. -/
abbrev scr2 : Memref sig .tc .vmem S64x512 .f32 := Memref.whole cc0_scratch2

/-- What the launch hands the region: the three scratch buffers and the generator register, each at some contents. -/
theorem launch_eq (c : Dev nD) :
    (Pipeline.ΦA spec0 c : sProp 𝕄)
      = iprop(iprop((∃ d, owns (c : Thread nD τ) scr0 fullShare d) ∗ (∃ d, owns (c : Thread nD τ) scr1 fullShare d)
          ∗ (∃ d, owns (c : Thread nD τ) scr2 fullShare d)) ∗ (∃ r, prngReg c r)) := by
  unfold Pipeline.ΦA; rw [scopedRest0_eq]; simp only [scr0, scr1, scr2, owns_whole]; try rfl

end Cert.KernelIdeal.Hand

end
-- ==== Proof.Body.RunA.lean ====
module

public import proofs.«01_k».proof.Proof.Body.Base

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run term is long: the definition's epilogue walks it
set_option maxHeartbeats 3000000 in
/-- The first grid point: the two weight matrices are rounded into their scratch copies, then two segments are pooled; what the stores leave in each scratch buffer is the list the run finds. -/
noncomputable def runA (c : Dev nD) (i : grid0.Coords) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : cond0_0 i) (hc1 : ¬cond0_1 i)
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs2 : Vec F S64x512 .f32) :
    Σ' (LS0 : List (View.Piece (Elt F) S512x2048 .bf16)) (LS1 : List (View.Piece (Elt F) S512x2048 .bf16)), { LS2 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ owns (c : Thread nD τ) arg11 fullShare (arg11.view.read (Elt F) (arg11.view.writes (Elt F) (harg11.unread xs2) LS2))) -∗ K ⟨⟩))
          ⊢ wp frame (wpE (defs₀ (F := F)) Variants.none c none) E (cc0__set_kernel i arg1 harg1 arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__set_kernel_eq_skeleton]; unfold cc0__set_kernel_skel
    simp only [k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists fs0; iexact HS0
    isplitl [HS1]
    · iexists fs1; iexact HS1
    iexists _; isplitr; swap; · iexact HS2
    ipureintro; rfl

end Cert.KernelIdeal.Hand

end
-- ==== Proof.Body.RunB.lean ====
module

public import proofs.«01_k».proof.Proof.Body.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run term is long: the definition's epilogue walks it
set_option maxHeartbeats 3000000 in
/-- A middle grid point: the scratch copies of the weights are read only, two segments are pooled into their rows of the pooled scratch, and the output buffer is handed back untouched. -/
noncomputable def runB (c : Dev nD) (i : grid0.Coords) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : ¬cond0_0 i) (hc1 : ¬cond0_1 i)
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs0 : Vec F S512x2048 .bf16) (xs1 : Vec F S512x2048 .bf16) (xs2 : Vec F S64x512 .f32) :
    { LS2 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare (arg11.view.read (Elt F) (arg11.view.writes (Elt F) (harg11.unread xs2) LS2))) -∗ K ⟨⟩))
          ⊢ wp frame (wpE (defs₀ (F := F)) Variants.none c none) E (cc0__set_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__set_kernel_eq_skeleton]; unfold cc0__set_kernel_skel
    simp only [k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    isplitl [HS1]
    · iexists _; isplitr; · ipureintro; exact harg10.read_unread _
      iexact HS1
    iexists _; isplitr; swap; · iexact HS2
    ipureintro; rfl

end Cert.KernelIdeal.Hand

end
-- ==== Proof.Body.RunC.lean ====
module

public import proofs.«01_k».proof.Proof.Body.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run term is long: the definition's epilogue walks it
set_option maxHeartbeats 3000000 in
/-- The last grid point: two segments are pooled, then the pooled rows are projected and the output buffer is filled tile by tile; what the stores leave is the list the run finds. -/
noncomputable def runC (c : Dev nD) (i : grid0.Coords) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : ¬cond0_0 i) (hc1 : cond0_1 i)
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs0 : Vec F S512x2048 .bf16) (xs1 : Vec F S512x2048 .bf16) (xs2 : Vec F S64x512 .f32) :
    Σ' (L7 : List (View.Piece (Elt F) S8x1x2048 .f32)), { LS2 : List (View.Piece (Elt F) S64x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (arg8.view.read (Elt F) (arg8.view.writes (Elt F) (harg8.unread x7) L7)) ∗ owns (c : Thread nD τ) arg9 fullShare xs0 ∗ owns (c : Thread nD τ) arg10 fullShare xs1 ∗ owns (c : Thread nD τ) arg11 fullShare (arg11.view.read (Elt F) (arg11.view.writes (Elt F) (harg11.unread xs2) LS2))) -∗ K ⟨⟩))
          ⊢ wp frame (wpE (defs₀ (F := F)) Variants.none c none) E (cc0__set_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__set_kernel_eq_skeleton]; unfold cc0__set_kernel_skel
    simp only [k0_part15_eq_skeleton, k0_part16_eq_skeleton, k0_part17_eq_skeleton, k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; rfl
    isplitl [HS0]
    · iexists _; isplitr; · ipureintro; exact harg9.read_unread _
      iexact HS0
    isplitl [HS1]
    · iexists _; isplitr; · ipureintro; exact harg10.read_unread _
      iexact HS1
    iexists _; isplitr; swap; · iexact HS2
    ipureintro; rfl

end Cert.KernelIdeal.Hand

end
-- ==== Proof.Body.Vals.lean ====
module

public import proofs.«01_k».proof.Proof.Body.RunC
public import Idealize.ShloMosaic.Lib.ValueIdx
public import Idealize.ShloMosaic.Lib.WholeRead
public import Idealize.ShloMosaic.Lib.WritesUnit
public import Idealize.ShloMosaic.Lib.VecWindow

@[expose] public section

set_option maxRecDepth 16384

noncomputable section

namespace Cert.KernelIdeal.Hand

open Cert.KernelIdeal.Gen
open Idealize.ShloMosaic.ValueIdx (ix2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Head 0's column of products of a block, as the body computes it. -/
def col0 (x : Vec F S2048x512 .f32) (wq wk : Vec F S512x2048 .bf16) (bq bk : Vec F S1x2048 .f32) : FVec F S2048x1 .f32 :=
  k0_pay83 x (View.ld wq (Rect.unit ![0, 0] S512x256.size inb_S512x2048_S512x256_0_0)) (View.ld bq (Rect.unit ![0, 0] S1x256.size inb_S1x2048_S1x256_0_0)) (View.ld wk (Rect.unit ![0, 0] S512x256.size inb_S512x2048_S512x256_0_0)) (View.ld bk (Rect.unit ![0, 0] S1x256.size inb_S1x2048_S1x256_0_0))

/-- Head 1's column of products of a block, as the body computes it. -/
def col1 (x : Vec F S2048x512 .f32) (wq wk : Vec F S512x2048 .bf16) (bq bk : Vec F S1x2048 .f32) : FVec F S2048x1 .f32 :=
  k0_pay85 (k0_pay84 x (View.ld wq (Rect.unit ![0, 256] S512x256.size inb_S512x2048_S512x256_0_256)) (View.ld bq (Rect.unit ![0, 256] S1x256.size inb_S1x2048_S1x256_0_256)) (View.ld wk (Rect.unit ![0, 256] S512x256.size inb_S512x2048_S512x256_0_256)) (View.ld bk (Rect.unit ![0, 256] S1x256.size inb_S1x2048_S1x256_0_256)))

/-- Head 2's column of products of a block, as the body computes it. -/
def col2 (x : Vec F S2048x512 .f32) (wq wk : Vec F S512x2048 .bf16) (bq bk : Vec F S1x2048 .f32) : FVec F S2048x1 .f32 :=
  k0_pay86 (k0_pay82 x) (View.ld wq (Rect.unit ![0, 512] S512x256.size inb_S512x2048_S512x256_0_512)) (View.ld bq (Rect.unit ![0, 512] S1x256.size inb_S1x2048_S1x256_0_512)) (View.ld wk (Rect.unit ![0, 512] S512x256.size inb_S512x2048_S512x256_0_512)) (View.ld bk (Rect.unit ![0, 512] S1x256.size inb_S1x2048_S1x256_0_512))

/-- Head 3's column of products of a block, as the body computes it. -/
def col3 (x : Vec F S2048x512 .f32) (wq wk : Vec F S512x2048 .bf16) (bq bk : Vec F S1x2048 .f32) : FVec F S2048x1 .f32 :=
  k0_pay87 (k0_pay82 x) (View.ld wq (Rect.unit ![0, 768] S512x256.size inb_S512x2048_S512x256_0_768)) (View.ld bq (Rect.unit ![0, 768] S1x256.size inb_S1x2048_S1x256_0_768)) (View.ld wk (Rect.unit ![0, 768] S512x256.size inb_S512x2048_S512x256_0_768)) (View.ld bk (Rect.unit ![0, 768] S1x256.size inb_S1x2048_S1x256_0_768))

/-- Head 4's column of products of a block, as the body computes it. -/
def col4 (x : Vec F S2048x512 .f32) (wq wk : Vec F S512x2048 .bf16) (bq bk : Vec F S1x2048 .f32) : FVec F S2048x1 .f32 :=
  k0_pay89 (k0_pay82 x) (k0_pay88 (k0_pay82 x) (View.ld wq (Rect.unit ![0, 1024] S512x256.size inb_S512x2048_S512x256_0_1024))) (View.ld bq (Rect.unit ![0, 1024] S1x256.size inb_S1x2048_S1x256_0_1024)) (View.ld wk (Rect.unit ![0, 1024] S512x256.size inb_S512x2048_S512x256_0_1024)) (View.ld bk (Rect.unit ![0, 1024] S1x256.size inb_S1x2048_S1x256_0_1024))

/-- Head 5's column of products of a block, as the body computes it. -/
def col5 (x : Vec F S2048x512 .f32) (wq wk : Vec F S512x2048 .bf16) (bq bk : Vec F S1x2048 .f32) : FVec F S2048x1 .f32 :=
  k0_pay90 (k0_pay82 x) (View.ld wq (Rect.unit ![0, 1280] S512x256.size inb_S512x2048_S512x256_0_1280)) (View.ld bq (Rect.unit ![0, 1280] S1x256.size inb_S1x2048_S1x256_0_1280)) (View.ld wk (Rect.unit ![0, 1280] S512x256.size inb_S512x2048_S512x256_0_1280)) (View.ld bk (Rect.unit ![0, 1280] S1x256.size inb_S1x2048_S1x256_0_1280))

/-- The scores of a block, all heads. -/
def scores (x : Vec F S2048x512 .f32) (wq wk : Vec F S512x2048 .bf16) (bq bk : Vec F S1x2048 .f32) : FVec F S2048x8 .f32 :=
  k0_pay92 (k0_pay82 x) (col0 x wq wk bq bk) (col1 x wq wk bq bk) (col2 x wq wk bq bk) (col3 x wq wk bq bk) (col4 x wq wk bq bk) (col5 x wq wk bq bk) (k0_pay91 (k0_pay82 x) (View.ld wq (Rect.unit ![0, 1536] S512x256.size inb_S512x2048_S512x256_0_1536)) (View.ld bq (Rect.unit ![0, 1536] S1x256.size inb_S1x2048_S1x256_0_1536))) (View.ld wk (Rect.unit ![0, 1536] S512x256.size inb_S512x2048_S512x256_0_1536)) (View.ld bk (Rect.unit ![0, 1536] S1x256.size inb_S1x2048_S1x256_0_1536)) (View.ld wq (Rect.unit ![0, 1792] S512x256.size inb_S512x2048_S512x256_0_1792)) (View.ld bq (Rect.unit ![0, 1792] S1x256.size inb_S1x2048_S1x256_0_1792)) (View.ld wk (Rect.unit ![0, 1792] S512x256.size inb_S512x2048_S512x256_0_1792)) (View.ld bk (Rect.unit ![0, 1792] S1x256.size inb_S1x2048_S1x256_0_1792))

/-- The normalised weights of a block's first segment. -/
def weights (x : Vec F S2048x512 .f32) (wq wk : Vec F S512x2048 .bf16) (bq bk : Vec F S1x2048 .f32) : FVec F S1024x8 .f32 :=
  k0_pay93 (k0_pay82 x) (col0 x wq wk bq bk) (col1 x wq wk bq bk) (col2 x wq wk bq bk) (col3 x wq wk bq bk) (col4 x wq wk bq bk) (col5 x wq wk bq bk) (k0_pay91 (k0_pay82 x) (View.ld wq (Rect.unit ![0, 1536] S512x256.size inb_S512x2048_S512x256_0_1536)) (View.ld bq (Rect.unit ![0, 1536] S1x256.size inb_S1x2048_S1x256_0_1536))) (View.ld wk (Rect.unit ![0, 1536] S512x256.size inb_S512x2048_S512x256_0_1536)) (View.ld bk (Rect.unit ![0, 1536] S1x256.size inb_S1x2048_S1x256_0_1536)) (View.ld wq (Rect.unit ![0, 1792] S512x256.size inb_S512x2048_S512x256_0_1792)) (View.ld bq (Rect.unit ![0, 1792] S1x256.size inb_S1x2048_S1x256_0_1792)) (View.ld wk (Rect.unit ![0, 1792] S512x256.size inb_S512x2048_S512x256_0_1792)) (View.ld bk (Rect.unit ![0, 1792] S1x256.size inb_S1x2048_S1x256_0_1792))

/-- The pooled rows of a block's first segment. -/
def pool0 (x : Vec F S2048x512 .f32) (wq wk : Vec F S512x2048 .bf16) (bq bk : Vec F S1x2048 .f32) : FVec F S8x512 .f32 :=
  k0_pay1 (weights x wq wk bq bk) (k0_pay94 (k0_pay82 x)) (constant S8x512 .f32 0x00000000#32)

/-- The pooled rows of a block's second segment. -/
def pool1 (x : Vec F S2048x512 .f32) (wq wk : Vec F S512x2048 .bf16) (bq bk : Vec F S1x2048 .f32) : FVec F S8x512 .f32 :=
  k0_pay2 (k0_pay82 x) (scores x wq wk bq bk)

/-- The pooled-row buffer after point `n`: sixteen rows replaced. -/
def upd (n : ℕ) (d : Vec F S64x512 .f32) (w0 w1 : FVec F S8x512 .f32) : Vec F S64x512 .f32 := fun y =>
  if (y 0).val / 8 = 2 * n then w0 (ix2 ⟨(y 0).val % 8, Nat.mod_lt _ (by decide)⟩ ⟨(y 1).val, (y 1).isLt⟩)
  else if (y 0).val / 8 = 2 * n + 1 then w1 (ix2 ⟨(y 0).val % 8, Nat.mod_lt _ (by decide)⟩ ⟨(y 1).val, (y 1).isLt⟩)
  else d y

/-- The output the last point stores: row `b`, column `e` is the projection of pooled row `8 b + e / 256`, plus the
bias. -/
def outp (wv : Vec F S512x2048 .f32) (bv : Vec F S1x2048 .f32) (d : Vec F S64x512 .f32) : Vec F S8x1x2048 .f32 := fun y =>
  FloatOps.addf (k0_pay3 d wv (ix2 ⟨8 * (y 0).val + (y 2).val / 256, by
      have h0 : (y 0).val < 8 := (y 0).isLt
      have h2 : (y 2).val < 2048 := (y 2).isLt
      omega⟩ ⟨(y 2).val, (y 2).isLt⟩))
    (bv (ix2 0 ⟨(y 2).val, (y 2).isLt⟩))

/-- A load from a whole buffer held at the contents that read `X` is a load of `X`. -/
theorem rd {s : Shape} {e : EltTy} {a : Memref sig .tc .vmem s e} (h : a.IsWhole) (X : s.Idx → Elt F e) (r : Rect s) :
    a.view.readAt (Elt F) r.toLoadRect (h.unread X) = View.ld X r := by
  funext x
  exact h.readAt_unread X r.toLoadRect x

/-- A load of everything. -/
theorem ld_all {s : Shape} {e : EltTy} (X : s.Idx → Elt F e) (off : Fin s.rank → ℕ) (inb : ∀ a, off a + s.size a ≤ s.size a) :
    View.ld X (Rect.unit off s.size inb) = X := by
  funext y
  exact congrArg X (funext fun a => Fin.ext (by
    show off a + 1 * (y a).val = (y a).val
    have := inb a; omega))

/-- The start of the rows a point stores its segments' pooled rows at. -/
theorem off_eq (t : Fin cfg0.N) : k0_off1 (grid0.coords t) 0#32 = ![8 * (2 * t.val), 0]
    ∧ k0_off1 (grid0.coords t) 1#32 = ![8 * (2 * t.val + 1), 0] := by
  have ht : t.val < 4 := Nat.lt_of_lt_of_eq t.isLt N_0
  simp only [k0_off1, coord_val]
  generalize t.val = n at ht ⊢
  rcases (show n = 0 ∨ n = 1 ∨ n = 2 ∨ n = 3 by omega) with rfl | rfl | rfl | rfl <;> exact ⟨rfl, rfl⟩

/-- The two stores of a point into the pooled-row buffer leave it updated. -/
theorem read_two {a : Memref sig .tc .vmem S64x512 .f32} (h : a.IsWhole) (n : ℕ) (d : Vec F S64x512 .f32) (w0 w1 : FVec F S8x512 .f32)
    {o0 o1 : Fin 2 → ℕ} (e0 : o0 = ![8 * (2 * n), 0]) (e1 : o1 = ![8 * (2 * n + 1), 0])
    (i0 : ∀ a : Fin 2, o0 a + S8x512.size a ≤ S64x512.size a) (i1 : ∀ a : Fin 2, o1 a + S8x512.size a ≤ S64x512.size a) :
    a.view.read (Elt F) (a.view.writes (Elt F) (h.unread d)
      [⟨Rect.unit (s := S64x512) o1 S8x512.size i1, w1⟩, ⟨Rect.unit (s := S64x512) o0 S8x512.size i0, w0⟩]) = upd n d w0 w1 := by
  funext y
  have hm := Nat.div_add_mod (y 0).val 8
  have hl := Nat.mod_lt (y 0).val (show 0 < 8 by decide)
  have hx : ∀ k, (y 0).val / 8 = k → (y 0).val = 8 * k + (y 0).val % 8 := fun k hk => by rw [← hk]; exact hm.symm
  have hn : ∀ k, (y 0).val / 8 ≠ k → ((y 0).val < 8 * k ∨ 8 * k + 8 ≤ (y 0).val) := fun k hk => by omega
  unfold upd
  generalize 2 * n = p at *
  by_cases h1 : (y 0).val / 8 = p + 1
  · have hx1 := hx _ h1
    rw [if_neg (by omega), if_pos h1]
    generalize 8 * (p + 1) = q at *
    exact View.read_writes_cons_rows_of_mem (d := ![64, 512]) (o := q) a.view (h.unread d) i1 w1 _ y
      (ix2 (n0 := 8) (n1 := 512) ⟨(y 0).val % 8, hl⟩ ⟨(y 1).val, (y 1).isLt⟩) e1 hx1 rfl
  · have hn1 := hn _ h1
    generalize 8 * (p + 1) = q at *
    rw [View.read_writes_cons_rows_of_not_mem (d := ![64, 512]) (o := q) (W := 8) a.view (h.unread d) i1 w1 _ y e1 rfl hn1]
    by_cases h0 : (y 0).val / 8 = p
    · have hx0 := hx _ h0
      rw [if_pos h0]
      generalize 8 * p = r at *
      exact View.read_writes_cons_rows_of_mem (d := ![64, 512]) (o := r) a.view (h.unread d) i0 w0 _ y
        (ix2 (n0 := 8) (n1 := 512) ⟨(y 0).val % 8, hl⟩ ⟨(y 1).val, (y 1).isLt⟩) e0 hx0 rfl
    · have hn0 := hn _ h0
      generalize 8 * p = r at *
      rw [View.read_writes_cons_rows_of_not_mem (d := ![64, 512]) (o := r) (W := 8) a.view (h.unread d) i0 w0 _ y e0 rfl hn0,
        if_neg h0, if_neg h1, View.writes_nil, h.read_unread]

end Cert.KernelIdeal.Hand

end
-- ==== Proof.Body.Pieces.lean ====
module

public import proofs.«01_k».proof.Proof.Body.Vals
public import Idealize.ShloMosaic.Lib.ValueLayout
public import Idealize.ShloMosaic.Lib.PointwiseCore
public import Idealize.ShloMosaic.Lib.Writes
public import Idealize.ShloMosaic.Lib.Ring
public import Idealize.ShloMosaic.Lib.Pipeline.ValueKit.Tiles

@[expose] public section

set_option maxRecDepth 16384

noncomputable section

namespace Cert.KernelIdeal.Hand

open Cert.KernelIdeal.Gen
open Idealize.ShloMosaic.ValueIdx (ix2 ix3 eq_ix3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load after everything was stored is a load of what was stored. -/
theorem rcov {s : Shape} {e : EltTy} (a : Memref sig .tc .vmem s e) {off : Fin s.rank → ℕ} (inb : ∀ a, off a + s.size a ≤ s.size a)
    (w : s.Idx → Elt F e) (r : Rect s) :
    a.view.readCov [⟨Rect.unit off s.size inb, w⟩] r.toLoadRect = View.ld w r := by
  funext x
  exact congrFun (View.read_writes_full a.view _ inb w []) _

/-- A load of all of a weight matrix. -/
theorem ldW {e : EltTy} (X : S512x2048.Idx → Elt F e) (inb : ∀ a : Fin 2, (![0, 0] : Fin 2 → ℕ) a + (![512, 2048] : Fin 2 → ℕ) a ≤ S512x2048.size a) :
    View.ld X (Rect.unit (s := S512x2048) ![0, 0] ![512, 2048] inb) = X := ld_all X _ _

/-- A load of all of a block of rows. -/
theorem ldX {e : EltTy} (X : S2048x512.Idx → Elt F e) (inb : ∀ a : Fin 2, (![0, 0] : Fin 2 → ℕ) a + (![2048, 512] : Fin 2 → ℕ) a ≤ S2048x512.size a) :
    View.ld X (Rect.unit (s := S2048x512) ![0, 0] ![2048, 512] inb) = X := ld_all X _ _

/-- A load after all of a weight matrix's copy was stored. -/
theorem rcovW {e : EltTy} (a : Memref sig .tc .vmem S512x2048 e) (inb : ∀ a : Fin 2, (![0, 0] : Fin 2 → ℕ) a + (![512, 2048] : Fin 2 → ℕ) a ≤ S512x2048.size a)
    (w : S512x2048.Idx → Elt F e) (r : Rect S512x2048) :
    a.view.readCov [⟨Rect.unit (s := S512x2048) ![0, 0] ![512, 2048] inb, w⟩] r.toLoadRect = View.ld w r := rcov a _ w r

set_option maxHeartbeats 1000000 in
/-- What the pooled-row buffer holds after the body, case A. -/
theorem rowsA (c : Dev nD) (t : Fin cfg0.N) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : cond0_0 (grid0.coords t)) (hc1 : ¬cond0_1 (grid0.coords t))
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs2 : Vec F S64x512 .f32) :
    arg11.view.read (Elt F) (arg11.view.writes (Elt F) (harg11.unread xs2) (runA c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs2).2.2.1)
      = upd t.val xs2 (pool0 x0 (k0_pay80 x1) (k0_pay81 x2) x4 x5) (pool1 x0 (k0_pay80 x1) (k0_pay81 x2) x4 x5) := by
  have e : (runA c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs2).2.2.1
      = [⟨Rect.unit (s := S64x512) (k0_off1 (grid0.coords t) 1#32) S8x512.size (k0_off1_inb (grid0.coords t) 1), pool1 x0 (k0_pay80 x1) (k0_pay81 x2) x4 x5⟩,
          ⟨Rect.unit (s := S64x512) (k0_off1 (grid0.coords t) 0#32) S8x512.size (k0_off1_inb (grid0.coords t) 0), pool0 x0 (k0_pay80 x1) (k0_pay81 x2) x4 x5⟩] := by
    unfold runA
    dsimp only
    simp only [runA.sl.HS0_1, runA.sl.HS1_1, runA.sl.cst_86, runA.sl.r, runA.sl.r_1, runA.sl.r_10, runA.sl.r_11, runA.sl.r_12, runA.sl.r_2, runA.sl.r_3, runA.sl.r_4, runA.sl.r_5, runA.sl.r_6, runA.sl.r_7, runA.sl.r_8, runA.sl.r_9, runA.sl.v101, runA.sl.v11, runA.sl.v110, runA.sl.v116, runA.sl.v20, runA.sl.v26, runA.sl.v35, runA.sl.v41, runA.sl.v5, runA.sl.v50, runA.sl.v56, runA.sl.v65, runA.sl.v71, runA.sl.v80, runA.sl.v86, runA.sl.v95, rd, rcovW, ldW, ldX]
    rfl
  rw [e]
  exact read_two harg11 t.val xs2 _ _ (off_eq t).1 (off_eq t).2 _ _

set_option maxHeartbeats 1000000 in
/-- What the pooled-row buffer holds after the body, case B. -/
theorem rowsB (c : Dev nD) (t : Fin cfg0.N) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : ¬cond0_0 (grid0.coords t)) (hc1 : ¬cond0_1 (grid0.coords t))
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs0 : Vec F S512x2048 .bf16) (xs1 : Vec F S512x2048 .bf16) (xs2 : Vec F S64x512 .f32) :
    arg11.view.read (Elt F) (arg11.view.writes (Elt F) (harg11.unread xs2) (runB c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 xs2).1)
      = upd t.val xs2 (pool0 x0 xs0 xs1 x4 x5) (pool1 x0 xs0 xs1 x4 x5) := by
  have e : (runB c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 xs2).1
      = [⟨Rect.unit (s := S64x512) (k0_off1 (grid0.coords t) 1#32) S8x512.size (k0_off1_inb (grid0.coords t) 1), pool1 x0 xs0 xs1 x4 x5⟩,
          ⟨Rect.unit (s := S64x512) (k0_off1 (grid0.coords t) 0#32) S8x512.size (k0_off1_inb (grid0.coords t) 0), pool0 x0 xs0 xs1 x4 x5⟩] := by
    unfold runB
    dsimp only
    simp only [runB.sl.cst_86, runB.sl.r, runB.sl.r_1, runB.sl.r_10, runB.sl.r_11, runB.sl.r_12, runB.sl.r_2, runB.sl.r_3, runB.sl.r_4, runB.sl.r_5, runB.sl.r_6, runB.sl.r_7, runB.sl.r_8, runB.sl.r_9, rd, rcovW, ldW, ldX]
    rfl
  rw [e]
  exact read_two harg11 t.val xs2 _ _ (off_eq t).1 (off_eq t).2 _ _

set_option maxHeartbeats 1000000 in
/-- What the pooled-row buffer holds after the body, case C. -/
theorem rowsC (c : Dev nD) (t : Fin cfg0.N) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : ¬cond0_0 (grid0.coords t)) (hc1 : cond0_1 (grid0.coords t))
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs0 : Vec F S512x2048 .bf16) (xs1 : Vec F S512x2048 .bf16) (xs2 : Vec F S64x512 .f32) :
    arg11.view.read (Elt F) (arg11.view.writes (Elt F) (harg11.unread xs2) (runC c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 xs2).2.1)
      = upd t.val xs2 (pool0 x0 xs0 xs1 x4 x5) (pool1 x0 xs0 xs1 x4 x5) := by
  have e : (runC c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 xs2).2.1
      = [⟨Rect.unit (s := S64x512) (k0_off1 (grid0.coords t) 1#32) S8x512.size (k0_off1_inb (grid0.coords t) 1), pool1 x0 xs0 xs1 x4 x5⟩,
          ⟨Rect.unit (s := S64x512) (k0_off1 (grid0.coords t) 0#32) S8x512.size (k0_off1_inb (grid0.coords t) 0), pool0 x0 xs0 xs1 x4 x5⟩] := by
    unfold runC
    dsimp only
    simp only [runC.sl.HS2_2, runC.sl.cst_86, runC.sl.r, runC.sl.r_1, runC.sl.r_10, runC.sl.r_11, runC.sl.r_12, runC.sl.r_13, runC.sl.r_14, runC.sl.r_15, runC.sl.r_16, runC.sl.r_17, runC.sl.r_18, runC.sl.r_19, runC.sl.r_2, runC.sl.r_20, runC.sl.r_21, runC.sl.r_22, runC.sl.r_23, runC.sl.r_24, runC.sl.r_25, runC.sl.r_26, runC.sl.r_27, runC.sl.r_3, runC.sl.r_4, runC.sl.r_5, runC.sl.r_6, runC.sl.r_7, runC.sl.r_8, runC.sl.r_9, runC.sl.v173, runC.sl.v558, rd, rcovW, ldW, ldX]
    rfl
  rw [e]
  exact read_two harg11 t.val xs2 _ _ (off_eq t).1 (off_eq t).2 _ _

/-- What the first point leaves in the rounded copy 0. -/
theorem copy0 (c : Dev nD) (t : Fin cfg0.N) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : cond0_0 (grid0.coords t)) (hc1 : ¬cond0_1 (grid0.coords t))
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs2 : Vec F S64x512 .f32) (f : arg9.view.ty.Contents (Elt F)) :
    arg9.view.read (Elt F) (arg9.view.writes (Elt F) f (runA c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs2).1) = k0_pay80 x1 := by
  have e : (runA c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs2).1
      = [⟨Rect.unit (s := S512x2048) ![0, 0] S512x2048.size inb_S512x2048_S512x2048_0_0, k0_pay80 x1⟩] := by
    unfold runA
    dsimp only
    simp only [runA.sl.HS0_1, runA.sl.HS1_1, runA.sl.cst_86, runA.sl.r, runA.sl.r_1, runA.sl.r_10, runA.sl.r_11, runA.sl.r_12, runA.sl.r_2, runA.sl.r_3, runA.sl.r_4, runA.sl.r_5, runA.sl.r_6, runA.sl.r_7, runA.sl.r_8, runA.sl.r_9, runA.sl.v101, runA.sl.v11, runA.sl.v110, runA.sl.v116, runA.sl.v20, runA.sl.v26, runA.sl.v35, runA.sl.v41, runA.sl.v5, runA.sl.v50, runA.sl.v56, runA.sl.v65, runA.sl.v71, runA.sl.v80, runA.sl.v86, runA.sl.v95, rd, rcovW, ldW, ldX]
  rw [e]
  exact View.read_writes_full _ _ _ _ _

/-- What the first point leaves in the rounded copy 1. -/
theorem copy1 (c : Dev nD) (t : Fin cfg0.N) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : cond0_0 (grid0.coords t)) (hc1 : ¬cond0_1 (grid0.coords t))
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs2 : Vec F S64x512 .f32) (f : arg10.view.ty.Contents (Elt F)) :
    arg10.view.read (Elt F) (arg10.view.writes (Elt F) f (runA c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs2).2.1) = k0_pay81 x2 := by
  have e : (runA c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs2).2.1
      = [⟨Rect.unit (s := S512x2048) ![0, 0] S512x2048.size inb_S512x2048_S512x2048_0_0, k0_pay81 x2⟩] := by
    unfold runA
    dsimp only
    simp only [runA.sl.HS0_1, runA.sl.HS1_1, runA.sl.cst_86, runA.sl.r, runA.sl.r_1, runA.sl.r_10, runA.sl.r_11, runA.sl.r_12, runA.sl.r_2, runA.sl.r_3, runA.sl.r_4, runA.sl.r_5, runA.sl.r_6, runA.sl.r_7, runA.sl.r_8, runA.sl.r_9, runA.sl.v101, runA.sl.v11, runA.sl.v110, runA.sl.v116, runA.sl.v20, runA.sl.v26, runA.sl.v35, runA.sl.v41, runA.sl.v5, runA.sl.v50, runA.sl.v56, runA.sl.v65, runA.sl.v71, runA.sl.v80, runA.sl.v86, runA.sl.v95, rd, rcovW, ldW, ldX]
  rw [e]
  exact View.read_writes_full _ _ _ _ _

/-- One stored tile of the output, in the form its payload has. -/
theorem tile_eq (wv : Vec F S512x2048 .f32) (bv : Vec F S1x2048 .f32) (d : Vec F S64x512 .f32) (b h r k : ℕ)
    (hb : b < 8) (hh : h < 8) (hr : r = 8 * b + h) (hk : k = 256 * h)
    (hs : S64x2048.Slices ![r, k] S1x256) (i1 : ∀ a : Fin 2, (![0, k] : Fin 2 → ℕ) a + S1x256.size a ≤ S1x2048.size a)
    (i3 : ∀ a : Fin 3, (![b, 0, k] : Fin 3 → ℕ) a + S1x1x256.size a ≤ S8x1x2048.size a)
    (x : S1x1x256.Idx) :
    shapeCast S1x1x256 (addf (extractStridedSlice S1x256 ![r, k] (k0_pay3 d wv) hs)
      (shapeCast S1x256 (View.ld bv (Rect.unit (s := S1x2048) ![0, k] S1x256.size i1)) shapeCasts_S1x256_S1x256)) shapeCasts_S1x256_S1x1x256 x
      = outp wv bv d ((Rect.unit (s := S8x1x2048) ![b, 0, k] S1x1x256.size i3).emb x) := by
  subst hr hk
  obtain ⟨j, rfl⟩ : ∃ j : Fin 256, x = ValueIdx.ix3 0 0 j := ⟨⟨(x 2).val, (x 2).isLt⟩, by
    funext a
    match a with
    | ⟨0, _⟩ => exact Subsingleton.elim (α := Fin 1) _ _
    | ⟨1, _⟩ => exact Subsingleton.elim (α := Fin 1) _ _
    | ⟨2, _⟩ => rfl⟩
  refine (ValueIdx.shapeCast_ab_1ab_apply _ _ 0 0 j).trans ?_
  have hj := j.isLt
  unfold outp
  change FloatOps.addf (extractStridedSlice S1x256 ![8 * b + h, 256 * h] (k0_pay3 d wv) hs (ValueIdx.ix2 0 j))
    (shapeCast S1x256 (View.ld bv (Rect.unit (s := S1x2048) ![0, 256 * h] S1x256.size i1)) shapeCasts_S1x256_S1x256 (ValueIdx.ix2 0 j)) = FloatOps.addf _ _
  congr 1
  · refine congrArg (k0_pay3 d wv) (funext fun a => Fin.ext ?_)
    match a with
    | ⟨0, _⟩ => show 8 * b + h + 0 = 8 * (b + 1 * 0) + (256 * h + 1 * j.val) / 256; omega
    | ⟨1, _⟩ => show 256 * h + j.val = 256 * h + 1 * j.val; omega
  · refine (congrFun (shapeCast_id (s := S1x256) (View.ld bv (Rect.unit (s := S1x2048) ![0, 256 * h] S1x256.size i1)) _) (ValueIdx.ix2 0 j)).trans ?_
    refine congrArg bv (funext fun a => Fin.ext ?_)
    match a with
    | ⟨0, _⟩ => rfl
    | ⟨1, _⟩ => rfl

set_option maxHeartbeats 4000000 in
/-- What the last point stores into the output. -/
theorem outC (c : Dev nD) (t : Fin cfg0.N) (arg1 : Memref sig .tc .vmem S2048x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x1x2048 .f32) (harg8 : arg8.IsWhole) (arg9 : Memref sig .tc .vmem S512x2048 .bf16) (harg9 : arg9.IsWhole) (arg10 : Memref sig .tc .vmem S512x2048 .bf16) (harg10 : arg10.IsWhole) (arg11 : Memref sig .tc .vmem S64x512 .f32) (harg11 : arg11.IsWhole) (hc0 : ¬cond0_0 (grid0.coords t)) (hc1 : cond0_1 (grid0.coords t))
    (x0 : Vec F S2048x512 .f32) (x1 : Vec F S512x2048 .f32) (x2 : Vec F S512x2048 .f32) (x3 : Vec F S512x2048 .f32) (x4 : Vec F S1x2048 .f32) (x5 : Vec F S1x2048 .f32) (x6 : Vec F S1x2048 .f32) (x7 : Vec F S8x1x2048 .f32) (xs0 : Vec F S512x2048 .bf16) (xs1 : Vec F S512x2048 .bf16) (xs2 : Vec F S64x512 .f32) :
    arg8.view.read (Elt F) (arg8.view.writes (Elt F) (harg8.unread x7) (runC c (grid0.coords t) arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 xs2).1)
      = outp x3 x6 (upd t.val xs2 (pool0 x0 xs0 xs1 x4 x5) (pool1 x0 xs0 xs1 x4 x5)) := by
  have hv : ∀ (v : Vec F S64x512 .f32), v = runC.sl.v173 c (grid0.coords t) arg1 harg1 arg5 harg5 arg6 harg6 arg9 harg9 arg10 harg10 arg11 harg11 x0 x4 x5 xs0 xs1 xs2 → v = upd t.val xs2 (pool0 x0 xs0 xs1 x4 x5) (pool1 x0 xs0 xs1 x4 x5) := by
    rintro _ rfl
    rw [← rowsC c t arg1 harg1 arg2 harg2 arg3 harg3 arg4 harg4 arg5 harg5 arg6 harg6 arg7 harg7 arg8 harg8 arg9 harg9 arg10 harg10 arg11 harg11 hc0 hc1 x0 x1 x2 x3 x4 x5 x6 x7 xs0 xs1 xs2]
    exact ld_all _ _ _
  generalize upd t.val xs2 (pool0 x0 xs0 xs1 x4 x5) (pool1 x0 xs0 xs1 x4 x5) = D at hv ⊢
  funext y
  refine View.read_writes_apply_of_pieces arg8.view _ (outp x3 x6 D) _ ?_ y ?_
  · unfold runC
    dsimp only
    simp only [runC.sl.r_13, runC.sl.r_14, runC.sl.r_15, runC.sl.r_16, runC.sl.r_17, runC.sl.r_18, runC.sl.r_19, runC.sl.r_20, runC.sl.r_21, runC.sl.r_22, runC.sl.r_23, runC.sl.r_24, runC.sl.r_25, runC.sl.r_26, runC.sl.r_27, runC.sl.v558, hv _ rfl, rd, ldW]
    refine List.forall_mem_cons.2 ⟨fun x => tile_eq x3 x6 D 7 7 63 1792 (by decide) (by decide) rfl rfl slices_S64x2048_o63_1792_S1x256 inb_S1x2048_S1x256_0_1792 inb_S8x1x2048_S1x1x256_7_0_1792 x, ?_⟩
    refine List.forall_mem_cons.2 ⟨fun x => tile_eq x3 x6 D 7 6 62 1536 (by decide) (by decide) rfl rfl slices_S64x2048_o62_1536_S1x256 inb_S1x2048_S1x256_0_1536 inb_S8x1x2048_S1x1x256_7_0_1536 x, ?_⟩
    refine List.forall_mem_cons.2 ⟨fun x => tile_eq x3 x6 D 7 5 61 1280 (by decide) (by decide) rfl rfl slices_S64x2048_o61_1280_S1x256 inb_S1x2048_S1x256_0_1280 inb_S8x1x2048_S1x1x256_7_0_1280 x, ?_⟩
    refine List.forall_mem_cons.2 ⟨fun x => tile_eq x3 x6 D 7 4 60 1024 (by decide) (by decide) rfl rfl slices_S64x2048_o60_1024_S1x256 inb_S1x2048_S1x256_0_1024 inb_S8x1x2048_S1x1x256_7_0_1024 x, ?_⟩
    refine List.forall_mem_cons.2 ⟨fun x => tile_eq x3 x6 D 7 3 59 768 (by decide) (by decide) rfl rfl slices_S64x2048_o59_768_S1x256 inb_S1x2048_S1x256_0_768 inb_S8x1x2048_S1x1x256_7_0_768 x, ?_⟩
    refine List.forall_mem_cons.2 ⟨fun x => tile_eq x3 x6 D 7 2 58 512 (by decide) (by decide) rfl rfl slices_S64x2048_o58_512_S1x256 inb_S1x2048_S1x256_0_512 inb_S8x1x2048_S1x1x256_7_0_512 x, ?_⟩
    refine List.forall_mem_cons.2 ⟨fun x => tile_eq x3 x6 D 7 1 57 256 (by decide) (by decide) rfl rfl slices_S64x2048_o57_256_S1x256 inb_S1x2048_S1x256_0_256 inb_S8x1x2048_S1x1x256_7_0_256 x, ?_⟩
    refine List.forall_mem_cons.2 ⟨fun x => tile_eq x3 x6 D 7 0 56 0 (by decide) (by decide) rfl rfl slices_S64x2048_o56_0_S1x256 inb_S1x2048_S1x256_0_0 inb_S8x1x2048_S1x1x256_7_0_0 x, ?_⟩
    refine List.forall_mem_cons.2 ⟨fun x => tile_eq x3 x6 D 6 7 55 1792 (by decide) (by decide) rfl rfl slices_S64x2048_o55_1792_S1x256 inb_S1x2048_S1x256_0_1792 inb_S8x1x2048_S1x1x256_6_0_1792 x, ?_⟩
    refine List.forall_mem_cons.2 ⟨fun x => tile_eq x3 x6 D 6 6 54 1536 (by decide) (by decide) rfl rfl slices_S64x2048_o54_1536_S1x256 inb_S1x2048_S1x256_0_1536 inb_S8x1x2048_S1x1x256_6_0_1536 x, ?_⟩
    refine List.forall_mem_cons.2 ⟨fun x => tile_eq x3 x6 D 6 5 53 1280 (by decide) (by decide) rfl rfl slices_S64x2048_o53_1280_S1x256 inb_S1x2048_S1x256_0_1280 inb_S8x1x2048_S1x1x256_6_0_1280 x, ?_⟩
    refine List.forall_mem_cons.2 ⟨fun x => tile_eq x3 x6 D 6 4 52 1024 (by decide) (by decide) rfl rfl slices_S64x2048_o52_1024_S1x256 inb_S1x2048_S1x256_0_1024 inb_S8x1x2048_S1x1x256_6_0_1024 x, ?_⟩
    refine List.forall_mem_cons.2 ⟨fun x => tile_eq x3 x6 D 6 3 51 768 (by decide) (by decide) rfl rfl slices_S64x2048_o51_768_S1x256 inb_S1x2048_S1x256_0_768 inb_S8x1x2048_S1x1x256_6_0_768 x, ?_⟩
    refine List.forall_mem_cons.2 ⟨fun x => tile_eq x3 x6 D 6 2 50 512 (by decide) (by decide) rfl rfl slices_S64x2048_o50_512_S1x256 inb_S1x2048_S1x256_0_512 inb_S8x1x2048_S1x1x256_6_0_512 x, ?_⟩
    refine List.forall_mem_cons.2 ⟨fun x => tile_eq x3 x6 D 6 1 49 256 (by decide) (by decide) rfl rfl slices_S64x2048_o49_256_S1x256 inb_S1x2048_S1x256_0_256 inb_S8x1x2048_S1x1x256_6_0_256 x, ?_⟩
    refine List.forall_mem_cons.2 ⟨fun x => tile_eq x3 x6 D 6 0 48 0 (by decide) (by decide) rfl rfl slices_S64x2048_o48_0_S1x256 inb_S1x2048_S1x256_0_0 inb_S8x1x2048_S1x1x256_6_0_0 x, ?_⟩
    refine List.forall_mem_cons.2 ⟨fun x => tile_eq x3 x6 D 5 7 47 1792 (by decide) (by decide) rfl rfl slices_S64x2048_o47_1792_S1x256 inb_S1x2048_S1x256_0_1792 inb_S8x1x2048_S1x1x256_5_0_1792 x, ?_⟩
    refine List.forall_mem_cons.2 ⟨fun x => tile_eq x3 x6 D 5 6 46 1536 (by decide) (by decide) rfl rfl slices_S64x2048_o46_1536_S1x256 inb_S1x2048_S1x256_0_1536 inb_S8x1x2048_S1x1x256_5_0_1536 x, ?_⟩
    refine List.forall_mem_cons.2 ⟨fun x => tile_eq x3 x6 D 5 5 45 1280 (by decide) (by decide) rfl rfl slices_S64x2048_o45_1280_S1x256 inb_S1x2048_S1x256_0_1280 inb_S8x1x2048_S1x1x256_5_0_1280 x, ?_⟩
    refine List.forall_mem_cons.2 ⟨fun x => tile_eq x3 x6 D 5 4 44 1024 (by decide) (by decide) rfl rfl slices_S64x2048_o44_1024_S1x256 inb_S1x2048_S1x256_0_1024 inb_S8x1x2048_S1x1x256_5_0_1024 x, ?_⟩
    refine List.forall_mem_cons.2 ⟨fun x => tile_eq x3 x6 D 5 3 43 768 (by decide) (by decide) rfl rfl slices_S64x2048_o43_768_S1x256 inb_S1x2048_S1x256_0_768 inb_S8x1x2048_S1x1x256_5_0_768 x, ?_⟩
    refine List.forall_mem_cons.2 ⟨fun x => tile_eq x3 x6 D 5 2 42 512 (by decide) (by decide) rfl rfl slices_S64x2048_o42_512_S1x256 inb_S1x2048_S1x256_0_512 inb_S8x1x2048_S1x1x256_5_0_512 x, ?_⟩
    refine List.forall_mem_cons.2 ⟨fun x => tile_eq x3 x6 D 5 1 41 256 (by decide) (by decide) rfl rfl slices_S64x2048_o41_256_S1x256 inb_S1x2048_S1x256_0_256 inb_S8x1x2048_S1x1x256_5_0_256 x, ?_⟩
    refine List.forall_mem_cons.2 ⟨fun x => tile_eq x3 x6 D 5 0 40 0 (by decide) (by decide) rfl rfl slices_S64x2048_o40_0_S1x256 inb_S1x2048_S1x256_0_0 inb_S8x1x2048_S1x1x256_5_0_0 x, ?_⟩
    refine List.forall_mem_cons.2 ⟨fun x => tile_eq x3 x6 D 4 7 39 1792 (by decide) (by decide) rfl rfl slices_S64x2048_o39_1792_S1x256 inb_S1x2048_S1x256_0_1792 inb_S8x1x2048_S1x1x256_4_0_1792 x, ?_⟩
    refine List.forall_mem_cons.2 ⟨fun x => tile_eq x3 x6 D 4 6 38 1536 (by decide) (by decide) rfl rfl slices_S64x2048_o38_1536_S1x256 inb_S1x2048_S1x256_0_1536 inb_S8x1x2048_S1x1x256_4_0_1536 x, ?_⟩
    refine List.forall_mem_cons.2 ⟨fun x => tile_eq x3 x6 D 4 5 37 1280 (by decide) (by decide) rfl rfl slices_S64x2048_o37_1280_S1x256 inb_S1x2048_S1x256_0_1280 inb_S8x1x2048_S1x1x256_4_0_1280 x, ?_⟩
    refine List.forall_mem_cons.2 ⟨fun x => tile_eq x3 x6 D 4 4 36 1024 (by decide) (by decide) rfl rfl slices_S64x2048_o36_1024_S1x256 inb_S1x2048_S1x256_0_1024 inb_S8x1x2048_S1x1x256_4_0_1024 x, ?_⟩
    refine List.forall_mem_cons.2 ⟨fun x => tile_eq x3 x6 D 4 3 35 768 (by decide) (by decide) rfl rfl slices_S64x2048_o35_768_S1x256 inb_S1x2048_S1x256_0_768 inb_S8x1x2048_S1x1x256_4_0_768 x, ?_⟩
    refine List.forall_mem_cons.2 ⟨fun x => tile_eq x3 x6 D 4 2 34 512 (by decide) (by decide) rfl rfl slices_S64x2048_o34_512_S1x256 inb_S1x2048_S1x256_0_512 inb_S8x1x2048_S1x1x256_4_0_512 x, ?_⟩
    refine List.forall_mem_cons.2 ⟨fun x => tile_eq x3 x6 D 4 1 33 256 (by decide) (by decide) rfl rfl slices_S64x2048_o33_256_S1x256 inb_S1x2048_S1x256_0_256 inb_S8x1x2048_S1x1x256_4_0_256 x, ?_⟩
    refine List.forall_mem_cons.2 ⟨fun x => tile_eq x3 x6 D 4 0 32 0 (by decide) (by decide) rfl rfl slices_S64x2048_o32_0_S1x256 inb_S1x2048_S1x256_0_0 inb_S8x1x2048_S1x1x256_4_0_0 x, ?_⟩
    refine List.forall_mem_cons.2 ⟨fun x => tile_eq x3 x6 D 3 7 31 1792 (by decide) (by decide) rfl rfl slices_S64x2048_o31_1792_S1x256 inb_S1x2048_S1x256_0_1792 inb_S8x1x2048_S1x1x256_3_0_1792 x, ?_⟩
    refine List.forall_mem_cons.2 ⟨fun x => tile_eq x3 x6 D 3 6 30 1536 (by decide) (by decide) rfl rfl slices_S64x2048_o30_1536_S1x256 inb_S1x2048_S1x256_0_1536 inb_S8x1x2048_S1x1x256_3_0_1536 x, ?_⟩
    refine List.forall_mem_cons.2 ⟨fun x => tile_eq x3 x6 D 3 5 29 1280 (by decide) (by decide) rfl rfl slices_S64x2048_o29_1280_S1x256 inb_S1x2048_S1x256_0_1280 inb_S8x1x2048_S1x1x256_3_0_1280 x, ?_⟩
    refine List.forall_mem_cons.2 ⟨fun x => tile_eq x3 x6 D 3 4 28 1024 (by decide) (by decide) rfl rfl slices_S64x2048_o28_1024_S1x256 inb_S1x2048_S1x256_0_1024 inb_S8x1x2048_S1x1x256_3_0_1024 x, ?_⟩
    refine List.forall_mem_cons.2 ⟨fun x => tile_eq x3 x6 D 3 3 27 768 (by decide) (by decide) rfl rfl slices_S64x2048_o27_768_S1x256 inb_S1x2048_S1x256_0_768 inb_S8x1x2048_S1x1x256_3_0_768 x, ?_⟩
    refine List.forall_mem_cons.2 ⟨fun x => tile_eq x3 x6 D 3 2 26 512 (by decide) (by decide) rfl rfl slices_S64x2048_o26_512_S1x256 inb_S1x2048_S1x256_0_512 inb_S8x1x2048_S1x1x256_3_0_512 x, ?_⟩
    refine List.forall_mem_cons.2 ⟨fun x => tile_eq x3 x6 D 3 1 25 256 (by decide) (by decide) rfl rfl slices_S64x2048_o25_256_S1x256 inb_S1x2048_S1x256_0_256 inb_S8x1x2048_S1x1x256_3_0_256 x, ?_⟩
    refine List.forall_mem_cons.2 ⟨fun x => tile_eq x3 x6 D 3 0 24 0 (by decide) (by decide) rfl rfl slices_S64x2048_o24_0_S1x256 inb_S1x2048_S1x256_0_0 inb_S8x1x2048_S1x1x256_3_0_0 x, ?_⟩
    refine List.forall_mem_cons.2 ⟨fun x => tile_eq x3 x6 D 2 7 23 1792 (by decide) (by decide) rfl rfl slices_S64x2048_o23_1792_S1x256 inb_S1x2048_S1x256_0_1792 inb_S8x1x2048_S1x1x256_2_0_1792 x, ?_⟩
    refine List.forall_mem_cons.2 ⟨fun x => tile_eq x3 x6 D 2 6 22 1536 (by decide) (by decide) rfl rfl slices_S64x2048_o22_1536_S1x256 inb_S1x2048_S1x256_0_1536 inb_S8x1x2048_S1x1x256_2_0_1536 x, ?_⟩
    refine List.forall_mem_cons.2 ⟨fun x => tile_eq x3 x6 D 2 5 21 1280 (by decide) (by decide) rfl rfl slices_S64x2048_o21_1280_S1x256 inb_S1x2048_S1x256_0_1280 inb_S8x1x2048_S1x1x256_2_0_1280 x, ?_⟩
    refine List.forall_mem_cons.2 ⟨fun x => tile_eq x3 x6 D 2 4 20 1024 (by decide) (by decide) rfl rfl slices_S64x2048_o20_1024_S1x256 inb_S1x2048_S1x256_0_1024 inb_S8x1x2048_S1x1x256_2_0_1024 x, ?_⟩
    refine List.forall_mem_cons.2 ⟨fun x => tile_eq x3 x6 D 2 3 19 768 (by decide) (by decide) rfl rfl slices_S64x2048_o19_768_S1x256 inb_S1x2048_S1x256_0_768 inb_S8x1x2048_S1x1x256_2_0_768 x, ?_⟩
    refine List.forall_mem_cons.2 ⟨fun x => tile_eq x3 x6 D 2 2 18 512 (by decide) (by decide) rfl rfl slices_S64x2048_o18_512_S1x256 inb_S1x2048_S1x256_0_512 inb_S8x1x2048_S1x1x256_2_0_512 x, ?_⟩
    refine List.forall_mem_cons.2 ⟨fun x => tile_eq x3 x6 D 2 1 17 256 (by decide) (by decide) rfl rfl slices_S64x2048_o17_256_S1x256 inb_S1x2048_S1x256_0_256 inb_S8x1x2048_S1x1x256_2_0_256 x, ?_⟩
    refine List.forall_mem_cons.2 ⟨fun x => tile_eq x3 x6 D 2 0 16 0 (by decide) (by decide) rfl rfl slices_S64x2048_o16_0_S1x256 inb_S1x2048_S1x256_0_0 inb_S8x1x2048_S1x1x256_2_0_0 x, ?_⟩
    refine List.forall_mem_cons.2 ⟨fun x => tile_eq x3 x6 D 1 7 15 1792 (by decide) (by decide) rfl rfl slices_S64x2048_o15_1792_S1x256 inb_S1x2048_S1x256_0_1792 inb_S8x1x2048_S1x1x256_1_0_1792 x, ?_⟩
    refine List.forall_mem_cons.2 ⟨fun x => tile_eq x3 x6 D 1 6 14 1536 (by decide) (by decide) rfl rfl slices_S64x2048_o14_1536_S1x256 inb_S1x2048_S1x256_0_1536 inb_S8x1x2048_S1x1x256_1_0_1536 x, ?_⟩
    refine List.forall_mem_cons.2 ⟨fun x => tile_eq x3 x6 D 1 5 13 1280 (by decide) (by decide) rfl rfl slices_S64x2048_o13_1280_S1x256 inb_S1x2048_S1x256_0_1280 inb_S8x1x2048_S1x1x256_1_0_1280 x, ?_⟩
    refine List.forall_mem_cons.2 ⟨fun x => tile_eq x3 x6 D 1 4 12 1024 (by decide) (by decide) rfl rfl slices_S64x2048_o12_1024_S1x256 inb_S1x2048_S1x256_0_1024 inb_S8x1x2048_S1x1x256_1_0_1024 x, ?_⟩
    refine List.forall_mem_cons.2 ⟨fun x => tile_eq x3 x6 D 1 3 11 768 (by decide) (by decide) rfl rfl slices_S64x2048_o11_768_S1x256 inb_S1x2048_S1x256_0_768 inb_S8x1x2048_S1x1x256_1_0_768 x, ?_⟩
    refine List.forall_mem_cons.2 ⟨fun x => tile_eq x3 x6 D 1 2 10 512 (by decide) (by decide) rfl rfl slices_S64x2048_o10_512_S1x256 inb_S1x2048_S1x256_0_512 inb_S8x1x2048_S1x1x256_1_0_512 x, ?_⟩
    refine List.forall_mem_cons.2 ⟨fun x => tile_eq x3 x6 D 1 1 9 256 (by decide) (by decide) rfl rfl slices_S64x2048_o9_256_S1x256 inb_S1x2048_S1x256_0_256 inb_S8x1x2048_S1x1x256_1_0_256 x, ?_⟩
    refine List.forall_mem_cons.2 ⟨fun x => tile_eq x3 x6 D 1 0 8 0 (by decide) (by decide) rfl rfl slices_S64x2048_o8_0_S1x256 inb_S1x2048_S1x256_0_0 inb_S8x1x2048_S1x1x256_1_0_0 x, ?_⟩
    refine List.forall_mem_cons.2 ⟨fun x => tile_eq x3 x6 D 0 7 7 1792 (by decide) (by decide) rfl rfl slices_S64x2048_o7_1792_S1x256 inb_S1x2048_S1x256_0_1792 inb_S8x1x2048_S1x1x256_0_0_1792 x, ?_⟩
    refine List.forall_mem_cons.2 ⟨fun x => tile_eq x3 x6 D 0 6 6 1536 (by decide) (by decide) rfl rfl slices_S64x2048_o6_1536_S1x256 inb_S1x2048_S1x256_0_1536 inb_S8x1x2048_S1x1x256_0_0_1536 x, ?_⟩
    refine List.forall_mem_cons.2 ⟨fun x => tile_eq x3 x6 D 0 5 5 1280 (by decide) (by decide) rfl rfl slices_S64x2048_o5_1280_S1x256 inb_S1x2048_S1x256_0_1280 inb_S8x1x2048_S1x1x256_0_0_1280 x, ?_⟩
    refine List.forall_mem_cons.2 ⟨fun x => tile_eq x3 x6 D 0 4 4 1024 (by decide) (by decide) rfl rfl slices_S64x2048_o4_1024_S1x256 inb_S1x2048_S1x256_0_1024 inb_S8x1x2048_S1x1x256_0_0_1024 x, ?_⟩
    refine List.forall_mem_cons.2 ⟨fun x => tile_eq x3 x6 D 0 3 3 768 (by decide) (by decide) rfl rfl slices_S64x2048_o3_768_S1x256 inb_S1x2048_S1x256_0_768 inb_S8x1x2048_S1x1x256_0_0_768 x, ?_⟩
    refine List.forall_mem_cons.2 ⟨fun x => tile_eq x3 x6 D 0 2 2 512 (by decide) (by decide) rfl rfl slices_S64x2048_o2_512_S1x256 inb_S1x2048_S1x256_0_512 inb_S8x1x2048_S1x1x256_0_0_512 x, ?_⟩
    refine List.forall_mem_cons.2 ⟨fun x => tile_eq x3 x6 D 0 1 1 256 (by decide) (by decide) rfl rfl slices_S64x2048_o1_256_S1x256 inb_S1x2048_S1x256_0_256 inb_S8x1x2048_S1x1x256_0_0_256 x, ?_⟩
    refine List.forall_mem_cons.2 ⟨fun x => tile_eq x3 x6 D 0 0 0 0 (by decide) (by decide) rfl rfl slices_S64x2048_o0_0_S1x256 inb_S1x2048_S1x256_0_0 inb_S8x1x2048_S1x1x256_0_0_0 x, ?_⟩
    exact fun p hp => absurd hp List.not_mem_nil
  · exact View.cover_of_tiled _ ![1, 1, 256] rfl y

end Cert.KernelIdeal.Hand

end
-- ==== Proof.Body.Frame.lean ====
module

public import proofs.«01_k».proof.Proof.Body.Pieces
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def pt0 : Fin cfg0.N := ⟨0, Nat.lt_of_lt_of_eq (by decide) N_0.symm⟩

/-- The last grid point. -/
def pt3 : Fin cfg0.N := ⟨3, Nat.lt_of_lt_of_eq (by decide) N_0.symm⟩

/-- The query weights' rounded copy. -/
def wq (c : Dev nD) : Vec F S512x2048 .bf16 := k0_pay80 (iblk m c 1 pt0)

/-- The key weights' rounded copy. -/
def wk (c : Dev nD) : Vec F S512x2048 .bf16 := k0_pay81 (iblk m c 2 pt0)

/-- The pooled rows of the first segment of the block at a point. -/
def row0 (c : Dev nD) (t : Fin cfg0.N) : FVec F S8x512 .f32 := pool0 (iblk m c 0 t) (wq m c) (wk m c) (iblk m c 4 t) (iblk m c 5 t)

/-- The pooled rows of the second segment of the block at a point. -/
def row1 (c : Dev nD) (t : Fin cfg0.N) : FVec F S8x512 .f32 := pool1 (iblk m c 0 t) (wq m c) (wk m c) (iblk m c 4 t) (iblk m c 5 t)

/-- The point whose segments the pooled row `y` is of. -/
def ptOf (y : S64x512.Idx) : Fin cfg0.N := ⟨(y 0).val / 16, Nat.lt_of_lt_of_eq (by
  have h : (y 0).val < 64 := (y 0).isLt
  omega) N_0.symm⟩

/-- All pooled rows: eight heads of eight segments. -/
def rows (c : Dev nD) : Vec F S64x512 .f32 := fun y =>
  if (y 0).val / 8 % 2 = 0 then row0 m c (ptOf y) (ValueIdx.ix2 ⟨(y 0).val % 8, Nat.mod_lt _ (by decide)⟩ ⟨(y 1).val, (y 1).isLt⟩)
  else row1 m c (ptOf y) (ValueIdx.ix2 ⟨(y 0).val % 8, Nat.mod_lt _ (by decide)⟩ ⟨(y 1).val, (y 1).isLt⟩)

/-- The rows of the first `n` points' segments are there. -/
def upto (c : Dev nD) (n : ℕ) (d : Vec F S64x512 .f32) : Prop := ∀ y : S64x512.Idx, (y 0).val < 16 * n → d y = rows m c y

/-- A point adds its segments' rows. -/
theorem upto_upd (c : Dev nD) (t : Fin cfg0.N) (d : Vec F S64x512 .f32) (h : upto m c t.val d) :
    upto m c (t.val + 1) (upd t.val d (row0 m c t) (row1 m c t)) := by
  intro y hy
  have ht : ∀ k, k < 2 → (y 0).val / 8 = 2 * t.val + k → ptOf y = t := fun k hk e => Fin.ext (by show (y 0).val / 16 = t.val; omega)
  unfold upd
  by_cases h0 : (y 0).val / 8 = 2 * t.val
  · rw [if_pos h0, rows, if_pos (by omega), ht 0 (by decide) h0]
  · rw [if_neg h0]
    by_cases h1 : (y 0).val / 8 = 2 * t.val + 1
    · rw [if_pos h1, rows, if_neg (by omega), ht 1 (by decide) h1]
    · rw [if_neg h1]
      exact h y (by omega)

/-- After the last point all rows are there. -/
theorem eq_rows (c : Dev nD) (d : Vec F S64x512 .f32) (h : upto m c 4 d) : d = rows m c :=
  funext fun y => h y (y 0).isLt

/-- What is held beside the windows: at the start the scratch buffers at anything, after `n + 1` points the rounded
weights and the rows so far. -/
def inv (c : Dev nD) : ℕ → sProp 𝕄
  | 0 => Pipeline.ΦA spec0 c
  | n + 1 => iprop(iprop(owns (c : Thread nD τ) scr0 fullShare (wq m c) ∗ owns (c : Thread nD τ) scr1 fullShare (wk m c)
      ∗ (∃ d, ⌜upto m c (n + 1) d⌝ ∗ owns (c : Thread nD τ) scr2 fullShare d)) ∗ (∃ r, prngReg c r))

/-- The invariant after a point, spelt out. -/
theorem inv_succ (c : Dev nD) (n : ℕ) : inv m c (n + 1)
    = iprop(iprop(owns (c : Thread nD τ) scr0 fullShare (wq m c) ∗ owns (c : Thread nD τ) scr1 fullShare (wk m c)
      ∗ (∃ d, ⌜upto m c (n + 1) d⌝ ∗ owns (c : Thread nD τ) scr2 fullShare d)) ∗ (∃ r, prngReg c r)) := rfl

/-- The output the kernel leaves. -/
def result (c : Dev nD) (t : Fin cfg0.N) : Vec F S8x1x2048 .f32 := outp (iblk m c 3 t) (iblk m c 6 t) (rows m c)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => result m c t
  Φ t := inv m c t.val
  q _ := fullShare
  owed _ := 0

/-- The arrays are what the host leaves. -/
theorem A_eq (c : Dev nD) (w : Fin cfg0.W) : (dats m 0 c).A w = V m c (Pipeline.arrRef spec0 w) := by
  dsimp only [dats]

/-- A window that is not left alone at a point goes back at what the body leaves in it. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from h]

/-- The body finds input window 0 at the window's block. -/
theorem before0_0 (c : Dev nD) (t : Fin cfg0.N) (d) : (dats m 0 c).before 0 t d = iblk m c 0 t :=
  before0_0_of m (dats m 0 c) (A_eq m c 0) (fun _ => rfl) t d

/-- The body leaves input window 0 at the window's block. -/
theorem leaves0_0 (c : Dev nD) (t : Fin cfg0.N) :
    (dats m 0 c).leavesExact 0 t = owns (c : Thread nD τ) (mem0 t) fullShare (iblk m c 0 t) := leaves_live m c 0 t rfl

/-- The body finds input window 1 at the window's block. -/
theorem before0_1 (c : Dev nD) (t : Fin cfg0.N) (d) : (dats m 0 c).before 1 t d = iblk m c 1 t :=
  before0_1_of m (dats m 0 c) (A_eq m c 1) (fun _ => rfl) t d

/-- The body leaves input window 1 at the window's block. -/
theorem leaves0_1 (c : Dev nD) (t : Fin cfg0.N) :
    (dats m 0 c).leavesExact 1 t = owns (c : Thread nD τ) (mem1 t) fullShare (iblk m c 1 t) := leaves_live m c 1 t rfl

/-- The body finds input window 2 at the window's block. -/
theorem before0_2 (c : Dev nD) (t : Fin cfg0.N) (d) : (dats m 0 c).before 2 t d = iblk m c 2 t :=
  before0_2_of m (dats m 0 c) (A_eq m c 2) (fun _ => rfl) t d

/-- The body leaves input window 2 at the window's block. -/
theorem leaves0_2 (c : Dev nD) (t : Fin cfg0.N) :
    (dats m 0 c).leavesExact 2 t = owns (c : Thread nD τ) (mem2 t) fullShare (iblk m c 2 t) := leaves_live m c 2 t rfl

/-- The body finds input window 3 at the window's block. -/
theorem before0_3 (c : Dev nD) (t : Fin cfg0.N) (d) : (dats m 0 c).before 3 t d = iblk m c 3 t :=
  before0_3_of m (dats m 0 c) (A_eq m c 3) (fun _ => rfl) t d

/-- The body leaves input window 3 at the window's block. -/
theorem leaves0_3 (c : Dev nD) (t : Fin cfg0.N) :
    (dats m 0 c).leavesExact 3 t = owns (c : Thread nD τ) (mem3 t) fullShare (iblk m c 3 t) := leaves_live m c 3 t rfl

/-- The body finds input window 4 at the window's block. -/
theorem before0_4 (c : Dev nD) (t : Fin cfg0.N) (d) : (dats m 0 c).before 4 t d = iblk m c 4 t :=
  before0_4_of m (dats m 0 c) (A_eq m c 4) (fun _ => rfl) t d

/-- The body leaves input window 4 at the window's block. -/
theorem leaves0_4 (c : Dev nD) (t : Fin cfg0.N) :
    (dats m 0 c).leavesExact 4 t = owns (c : Thread nD τ) (mem4 t) fullShare (iblk m c 4 t) := leaves_live m c 4 t rfl

/-- The body finds input window 5 at the window's block. -/
theorem before0_5 (c : Dev nD) (t : Fin cfg0.N) (d) : (dats m 0 c).before 5 t d = iblk m c 5 t :=
  before0_5_of m (dats m 0 c) (A_eq m c 5) (fun _ => rfl) t d

/-- The body leaves input window 5 at the window's block. -/
theorem leaves0_5 (c : Dev nD) (t : Fin cfg0.N) :
    (dats m 0 c).leavesExact 5 t = owns (c : Thread nD τ) (mem5 t) fullShare (iblk m c 5 t) := leaves_live m c 5 t rfl

/-- The body finds input window 6 at the window's block. -/
theorem before0_6 (c : Dev nD) (t : Fin cfg0.N) (d) : (dats m 0 c).before 6 t d = iblk m c 6 t :=
  before0_6_of m (dats m 0 c) (A_eq m c 6) (fun _ => rfl) t d

/-- The body leaves input window 6 at the window's block. -/
theorem leaves0_6 (c : Dev nD) (t : Fin cfg0.N) :
    (dats m 0 c).leavesExact 6 t = owns (c : Thread nD τ) (mem6 t) fullShare (iblk m c 6 t) := leaves_live m c 6 t rfl

/-- The body leaves the result in the output's window. -/
theorem after0_7 (c : Dev nD) (t : Fin cfg0.N) : (dats m 0 c).after 7 t = result m c t := by dsimp only [dats]

/-- The output's block is left alone at every point but the last. -/
theorem idle7 (t : Fin cfg0.N) : cfg0.idle 7 (grid0.coords t) = true ↔ t.val ≠ 3 := by
  show (!(k0_cond2 (grid0.coords t) == 1#1)) = true ↔ _
  rw [Bool.not_eq_true', beq_eq_false_iff_ne]
  exact not_congr (last_iff t)

/-- Before the last point the output's buffer goes back as it was. -/
theorem leaves0_7_idle (c : Dev nD) (t : Fin cfg0.N) (h : t.val ≠ 3) :
    (dats m 0 c).leavesExact 7 t = iprop(∃ d, owns (c : Thread nD τ) (mem7 t) fullShare ((dats m 0 c).before 7 t d)) :=
  (dats m 0 c).leavesExact_idle 7 t ((idle7 t).2 h) (by
    rw [Bool.eq_false_iff]
    intro hf
    have := (flush0_7 t).1 hf
    have ht : t.val < 4 := Nat.lt_of_lt_of_eq t.isLt N_0
    omega)

/-- At the last point the output's buffer holds the result. -/
theorem leaves0_7_last (c : Dev nD) (t : Fin cfg0.N) (h : t.val = 3) :
    (dats m 0 c).leavesExact 7 t = owns (c : Thread nD τ) (mem7 t) fullShare (result m c t) :=
  leaves_live m c 7 t (Bool.eq_false_iff.2 fun hf => (idle7 t).1 hf h)

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d)))

/-- What the body returns, window by window. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)
set_option maxHeartbeats 4000000 in
/-- The body at the first point. -/
theorem bodyA (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = inv m c (t.val + 1) from rfl, inv_succ]
  rw [leaves0_0, leaves0_1, leaves0_2, leaves0_3, leaves0_4, leaves0_5, leaves0_6, leaves0_7_idle m c t (by omega)]
  rw [show (dats m 0 c).Φ t.castSucc = Pipeline.ΦA spec0 c from by show inv m c t.val = _; rw [h]; rfl, launch_eq]
  iintro ⟨⟨⟨HS0, HS1, ⟨%xs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ (mem0_whole t) _ (mem1_whole t) _ (mem2_whole t) _ (mem3_whole t) _ (mem4_whole t) _ (mem5_whole t) _ (mem6_whole t) _ (mem7_whole t) scr0 (Memref.isWhole_whole _) scr1 (Memref.isWhole_whole _) scr2 (Memref.isWhole_whole _) ((first_iff t).2 h) (fun e => by have := (last_iff t).1 e; omega) (iblk m c 0 t) (iblk m c 1 t) (iblk m c 2 t) (iblk m c 3 t) (iblk m c 4 t) (iblk m c 5 t) (iblk m c 6 t) ((dats m 0 c).before 7 t d7) xs2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, ⟨%f0, HS0⟩, ⟨%f1, HS1⟩, HS2⟩
  have e : pt0 = t := Fin.ext h.symm
  isplitl [HS0 HS1 HS2 Hg]
  · isplitl [HS0 HS1 HS2]
    · isplitl [HS0]
      · unfold owns; iexists _; isplitr
        swap; · iexact HS0
        ipureintro
        rw [copy0, wq, e]
      isplitl [HS1]
      · unfold owns; iexists _; isplitr
        swap; · iexact HS1
        ipureintro
        rw [copy1, wk, e]
      iexists _; isplitr
      swap; · iexact HS2
      ipureintro
      have := upto_upd m c t xs2 (fun y hy => absurd hy (by rw [h]; exact Nat.not_lt_zero _))
      unfold row0 row1 wq wk at this
      rw [e] at this
      rw [rowsA]
      exact this
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 4000000 in
/-- The body at a middle point. -/
theorem bodyB (c : Dev nD) (t : Fin cfg0.N) (h : t.val ≠ 0 ∧ t.val ≠ 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = inv m c (t.val + 1) from rfl, inv_succ]
  rw [leaves0_0, leaves0_1, leaves0_2, leaves0_3, leaves0_4, leaves0_5, leaves0_6, leaves0_7_idle m c t (by omega)]
  obtain ⟨n, hn⟩ := Nat.exists_eq_succ_of_ne_zero (show t.val ≠ 0 by omega)
  rw [show (dats m 0 c).Φ t.castSucc = inv m c (n + 1) from by show inv m c t.val = _; rw [hn], inv_succ]
  iintro ⟨⟨⟨HS0, HS1, ⟨%xs2, %hu, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ (mem0_whole t) _ (mem1_whole t) _ (mem2_whole t) _ (mem3_whole t) _ (mem4_whole t) _ (mem5_whole t) _ (mem6_whole t) _ (mem7_whole t) scr0 (Memref.isWhole_whole _) scr1 (Memref.isWhole_whole _) scr2 (Memref.isWhole_whole _) (fun e => h.1 ((first_iff t).1 e)) (fun e => h.2 ((last_iff t).1 e)) (iblk m c 0 t) (iblk m c 1 t) (iblk m c 2 t) (iblk m c 3 t) (iblk m c 4 t) (iblk m c 5 t) (iblk m c 6 t) ((dats m 0 c).before 7 t d7) (wq m c) (wk m c) xs2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  have hu' := upto_upd m c t xs2 (by rw [hn]; exact hu)
  unfold row0 row1 at hu'
  isplitl [HS0 HS1 HS2 Hg]
  · isplitl [HS0 HS1 HS2]
    · isplitl [HS0]; · iexact HS0
      isplitl [HS1]; · iexact HS1
      iexists _; isplitr
      swap; · iexact HS2
      ipureintro
      rw [rowsB]
      exact hu'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists d7; iexact H7

set_option maxHeartbeats 4000000 in
/-- The body at the last point. -/
theorem bodyC (c : Dev nD) (t : Fin cfg0.N) (h : t.val = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = inv m c (t.val + 1) from rfl, inv_succ]
  rw [leaves0_0, leaves0_1, leaves0_2, leaves0_3, leaves0_4, leaves0_5, leaves0_6, leaves0_7_last m c t h]
  obtain ⟨n, hn⟩ := Nat.exists_eq_succ_of_ne_zero (show t.val ≠ 0 by omega)
  rw [show (dats m 0 c).Φ t.castSucc = inv m c (n + 1) from by show inv m c t.val = _; rw [hn], inv_succ]
  iintro ⟨⟨⟨HS0, HS1, ⟨%xs2, %hu, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) _ (mem0_whole t) _ (mem1_whole t) _ (mem2_whole t) _ (mem3_whole t) _ (mem4_whole t) _ (mem5_whole t) _ (mem6_whole t) _ (mem7_whole t) scr0 (Memref.isWhole_whole _) scr1 (Memref.isWhole_whole _) scr2 (Memref.isWhole_whole _) (fun e => by have := (first_iff t).1 e; omega) ((last_iff t).2 h) (iblk m c 0 t) (iblk m c 1 t) (iblk m c 2 t) (iblk m c 3 t) (iblk m c 4 t) (iblk m c 5 t) (iblk m c 6 t) ((dats m 0 c).before 7 t d7) (wq m c) (wk m c) xs2).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, H4, H5, H6, H7, HS0, HS1, HS2⟩
  have hu' := upto_upd m c t xs2 (by rw [hn]; exact hu)
  unfold row0 row1 at hu'
  have e7 := outC c t _ (mem0_whole t) _ (mem1_whole t) _ (mem2_whole t) _ (mem3_whole t) _ (mem4_whole t) _ (mem5_whole t) _ (mem6_whole t) _ (mem7_whole t) scr0 (Memref.isWhole_whole _) scr1 (Memref.isWhole_whole _) scr2 (Memref.isWhole_whole _) (fun e => by have := (first_iff t).1 e; omega) ((last_iff t).2 h) (iblk m c 0 t) (iblk m c 1 t) (iblk m c 2 t) (iblk m c 3 t) (iblk m c 4 t) (iblk m c 5 t) (iblk m c 6 t) ((dats m 0 c).before 7 t d7) (wq m c) (wk m c) xs2
  rw [eq_rows m c (upd t.val xs2 (pool0 (iblk m c 0 t) (wq m c) (wk m c) (iblk m c 4 t) (iblk m c 5 t)) (pool1 (iblk m c 0 t) (wq m c) (wk m c) (iblk m c 4 t) (iblk m c 5 t)))
    (by rw [h] at hu' ⊢; exact hu')] at e7
  rw [show result m c t = _ from e7.symm]
  isplitl [HS0 HS1 HS2 Hg]
  · isplitl [HS0 HS1 HS2]
    · isplitl [HS0]; · iexact HS0
      isplitl [HS1]; · iexact HS1
      iexists _; isplitr
      swap; · iexact HS2
      ipureintro
      rw [rowsC]
      exact hu'
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyA m c t h0
  · by_cases h3 : t.val = 3
    · exact bodyC m c t h3
    · exact bodyB m c t ⟨h0, h3⟩

/-- The body table's row is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the first invariant. -/
theorem hin (c : Dev nD) : Pipeline.ΦA spec0 c ⊢ (dats m 0 c).Φ 0 := Idealize.SL.BI.Entails.refl _

/-- The last invariant gives the buffers back. -/
theorem hout (c : Dev nD) : (dats m 0 c).Φ (Fin.last cfg0.N) ⊢ Pipeline.ΦA spec0 c := by
  rw [show (dats m 0 c).Φ (Fin.last cfg0.N) = inv m c (3 + 1) from by show inv m c cfg0.N = _; rw [show cfg0.N = 4 from N_0], inv_succ, launch_eq]
  iintro ⟨⟨HS0, HS1, ⟨%d, %hd, HS2⟩⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The run: every array of the pipeline at what the proof data say, every other buffer at what the host computes, and
every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Same.lean ====
module

public import proofs.«01_k».proof.Proof.Gen.Kernel.Frame
public import proofs.«01_k».proof.Proof.Body.Frame

@[expose] public section

noncomputable section

namespace Cert.KernelIdeal.Hand

open Idealize.ShloMosaic

variable {F : FTy → Type} [FloatOps F]

/-- The two printed kernel bodies are one program. -/
theorem same_body : (@Cert.Kernel.cc0__set_kernel F _ _) = @Cert.KernelIdeal.cc0__set_kernel F _ _ := by
  unfold Cert.Kernel.cc0__set_kernel Cert.KernelIdeal.cc0__set_kernel
  rfl

/-- The two host programs around the kernel are one program. -/
theorem same_main : (Cert.Kernel.main (F := F)) = Cert.KernelIdeal.main (F := F) := rfl

/-- The label tables of the two programs agree: at the one label there is, both run the same body. -/
theorem same_defs₀ : (Cert.Kernel.defs₀ (F := F)) = Cert.KernelIdeal.defs₀ (F := F) := by
  unfold Cert.Kernel.defs₀ Cert.KernelIdeal.defs₀
  congr 1
  funext l x
  match l, x with
  | 0, (t, s) =>
    dsimp only
    rw [same_body]; rfl
  | ⟨n + 1, h⟩, _ => exact absurd h (Nat.not_lt.2 (Nat.le_add_left _ _))

/-- The pipelines' label tables agree as well, being built from equal bodies and equal windows. -/
theorem same_defs : (Cert.Kernel.defs (F := F)) = Cert.KernelIdeal.defs (F := F) := by
  show Pipeline.defs Cert.Kernel.pcfgs Cert.Kernel.defs₀ = Pipeline.defs Cert.KernelIdeal.pcfgs Cert.KernelIdeal.defs₀
  rw [same_defs₀]
  rfl

end Cert.KernelIdeal.Hand

end
-- ==== Proof.Value.Run.lean ====
module

public import proofs.«01_k».proof.Proof.Body.Frame
public import Idealize.ShloMosaic.Lib.Claim
public import Idealize.ShloMosaic.Lib.Pipeline.ValueKit

@[expose] public section

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- Every window's block index at every point: the rows advance, all else stays. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- The query weights' block is the whole array. -/
theorem iblk1 (c : Dev nD) (t : Fin cfg0.N) : iblk m c 1 t = m ((c : Thread nD τ).loc main_arg1) := by
  blk_ext! [iblk, V, idx t]

/-- The key weights' block is the whole array. -/
theorem iblk2 (c : Dev nD) (t : Fin cfg0.N) : iblk m c 2 t = m ((c : Thread nD τ).loc main_arg3) := by
  blk_ext! [iblk, V, idx t]

/-- The value weights' block is the whole array. -/
theorem iblk3 (c : Dev nD) (t : Fin cfg0.N) : iblk m c 3 t = m ((c : Thread nD τ).loc main_arg5) := by
  blk_ext! [iblk, V, idx t]

/-- The array the kernel writes ends at what the last point left. -/
theorem final (c : Dev nD) : (dats m 0 c).arrAt 7 cfg0.N = result m c pt3 := by
  refine (dats m 0 c).arrAt_eq_of_after_last 7 pt3 (by decide +kernel) _ fun j => ?_
  blk_simp
  rw [after0_7]

/-- A point's block of rows, at an index. -/
theorem iblk0 (c : Dev nD) (t : Fin cfg0.N) (r : Fin 2048) (l : Fin 512) (h : 2048 * t.val + r.val < 8192) :
    (iblk m c 0 t : Vec F S2048x512 .f32) (ValueIdx.ix2 r l)
      = (m ((c : Thread nD τ).loc main_arg0) : Vec F S8192x512 .f32) (ValueIdx.ix2 ⟨2048 * t.val + r.val, h⟩ l) := by
  blk_ext [iblk, V, idx t]
  show t.val * 2048 + r.val = _
  omega

/-- The query bias before the kernel: the lines ahead of it lay the biases out as rows. -/
theorem V_row0 (c : Dev nD) : V m c main_v0 = broadcastInDim S1x2048 ![1] bcast_S2048_S1x2048_1 (m ((c : Thread nD τ).loc main_arg2) : Vec F S2048 .f32) := by
  entry_read
  rfl

/-- The key bias before the kernel. -/
theorem V_row1 (c : Dev nD) : V m c main_v1 = broadcastInDim S1x2048 ![1] bcast_S2048_S1x2048_1 (m ((c : Thread nD τ).loc main_arg4) : Vec F S2048 .f32) := by
  entry_read
  rfl

/-- The value bias before the kernel. -/
theorem V_row2 (c : Dev nD) : V m c main_v2 = broadcastInDim S1x2048 ![1] bcast_S2048_S1x2048_1 (m ((c : Thread nD τ).loc main_arg6) : Vec F S2048 .f32) := by
  entry_read
  rfl

/-- A bias laid out as a row, at an index. -/
theorem row_apply (b : Vec F S2048 .f32) (l : Fin 2048) :
    broadcastInDim S1x2048 ![1] bcast_S2048_S1x2048_1 b (ValueIdx.ix2 0 l) = b (ValueIdx.ix1 l) :=
  congrArg b (funext fun a => match a with
    | ⟨0, _⟩ => rfl)

/-- The query bias, laid out as a row. -/
theorem iblk4 (c : Dev nD) (t : Fin cfg0.N) (l : Fin 2048) :
    (iblk m c 4 t : Vec F S1x2048 .f32) (ValueIdx.ix2 0 l)
      = (m ((c : Thread nD τ).loc main_arg2) : Vec F S2048 .f32) (ValueIdx.ix1 l) := by
  have e : iblk m c 4 t = V m c main_v0 := by blk_ext! [iblk, idx t]
  rw [e, V_row0]
  exact row_apply _ l

/-- The key bias, laid out as a row. -/
theorem iblk5 (c : Dev nD) (t : Fin cfg0.N) (l : Fin 2048) :
    (iblk m c 5 t : Vec F S1x2048 .f32) (ValueIdx.ix2 0 l)
      = (m ((c : Thread nD τ).loc main_arg4) : Vec F S2048 .f32) (ValueIdx.ix1 l) := by
  have e : iblk m c 5 t = V m c main_v1 := by blk_ext! [iblk, idx t]
  rw [e, V_row1]
  exact row_apply _ l

/-- The value bias, laid out as a row. -/
theorem iblk6 (c : Dev nD) (t : Fin cfg0.N) (l : Fin 2048) :
    (iblk m c 6 t : Vec F S1x2048 .f32) (ValueIdx.ix2 0 l)
      = (m ((c : Thread nD τ).loc main_arg6) : Vec F S2048 .f32) (ValueIdx.ix1 l) := by
  have e : iblk m c 6 t = V m c main_v2 := by blk_ext! [iblk, idx t]
  rw [e, V_row2]
  exact row_apply _ l

/-- What the program leaves in its result: the kernel's array with the middle axis dropped. -/
def out (c : Dev nD) : Vec F S8x2048 .f32 := shapeCast S8x2048 (result m c pt3) shapeCasts_S8x1x2048_S8x2048

/-- The line after the kernel reshapes the kernel's array into the result. -/
theorem tail (c : Dev nD) : Pipeline.afterTail₀ cfgs (dats m) 0 (V0 m) [hostOps1] c main_v4 = out m c := by
  unfold Pipeline.afterTail₀
  show StableHlo.after hostOps1 _ _ = _
  rw [hostOps1, StableHlo.after_cons, StableHlo.after_nil]
  rw [StableHlo.reshape_result]
  have e := (Pipeline.withArrays_arr (cfgs 0).spec launch0.win.arr_inj c (V0 m c)
    (fun w => (dats m 0 c).arrAt w (cfgs 0).N) 7).trans (final m c)
  funext i
  show shapeCast S8x2048 (Pipeline.withArrays (cfgs 0).spec c (V0 m c) (fun w => (dats m 0 c).arrAt w (cfgs 0).N)
    (Proc.tc.devRef (Pipeline.arrRef (cfgs 0).spec 7))) shapeCasts_S8x1x2048_S8x2048 i = _
  rw [e]
  rfl

/-- The program runs to the end with its result at `out` and its arguments as they were. -/
theorem value_run : θ_run defs (onTc (τ := τ) (main (F := F))) ⟨m, fun _ => 0, ρ⟩ (fun r => ∀ c : Dev nD,
      r.2.mem ((c.tc : Thread nD τ).loc main_v4) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, h.2.1 c⟩) (θ_run_and (run_main m ρ) (frame m ρ))
  exact ((h.1.1 c).2 main_v4 (Pipeline.mem_restRefs_of main_v4 (by decide) (by decide))).trans (tail m c)

end Cert.KernelIdeal.Hand

end
-- ==== Proof.Value.Math.lean ====
module

public import Idealize.ShloMosaic.Lib.IdealHost

@[expose] public section

noncomputable section

namespace Cert.Pool

open Idealize.ShloMosaic

/-- Column `e` of head `h`. -/
def col (h : Fin 8) (e : Fin 256) : Fin 2048 := ⟨256 * h.val + e.val, by omega⟩

/-- Row `r` of segment `b`. -/
def row (b : Fin 8) (r : Fin 1024) : Fin 8192 := ⟨1024 * b.val + r.val, by omega⟩

/-- The head a column is of. -/
def head (n : Fin 2048) : Fin 8 := ⟨n.val / 256, by omega⟩

/-- One row projected to one column, the bias added. -/
def proj (x : Fin 512 → EReal) (w : Fin 512 → Fin 2048 → EReal) (b : Fin 2048 → EReal) (n : Fin 2048) : EReal :=
  (∑ d, x d * w d n) + b n

/-- The arrays the two programs are given, by coordinates. -/
structure Args where
  x : Fin 8192 → Fin 512 → EReal
  wq : Fin 512 → Fin 2048 → EReal
  bq : Fin 2048 → EReal
  wk : Fin 512 → Fin 2048 → EReal
  bk : Fin 2048 → EReal
  wv : Fin 512 → Fin 2048 → EReal
  bv : Fin 2048 → EReal

/-- The score of a row under a head: the product of its query and key over the head's columns, over sixteen. -/
def score (wq : Fin 512 → Fin 2048 → EReal) (bq : Fin 2048 → EReal) (wk : Fin 512 → Fin 2048 → EReal) (bk : Fin 2048 → EReal)
    (x : Fin 512 → EReal) (h : Fin 8) : EReal :=
  (∑ e, proj x wq bq (col h e) * proj x wk bk (col h e)) * (((1 : ℝ) / 16 : ℝ) : EReal)

/-- The largest score of a segment. -/
def top (s : Fin 1024 → EReal) : EReal := Finset.univ.fold max ⊥ s

/-- The exponential of a score, shifted by the segment's largest. -/
def wt (s : Fin 1024 → EReal) (r : Fin 1024) : EReal := Ideal.exp (s r - top s)

/-- A segment's rows averaged by their weights. -/
def avg (s : Fin 1024 → EReal) (x : Fin 1024 → Fin 512 → EReal) (d : Fin 512) : EReal :=
  ∑ r, wt s r * Ideal.div 1 (∑ r, wt s r) * x r d

/-- The kernel's result: the averaged row projected. -/
def pooledFirst (A : Args) (b : Fin 8) (n : Fin 2048) : EReal :=
  (∑ d, avg (fun r => score A.wq A.bq A.wk A.bk (A.x (row b r)) (head n)) (fun r => A.x (row b r)) d * A.wv d n) + A.bv n

/-- The reference's result: the projected rows averaged. -/
def projFirst (A : Args) (b : Fin 8) (n : Fin 2048) : EReal :=
  let s := fun r => score A.wq A.bq A.wk A.bk (A.x (row b r)) (head n)
  ∑ r, Ideal.div (wt s r) (∑ r, wt s r) * proj (A.x (row b r)) A.wv A.bv n

/-- The word of one sixteenth. -/
theorem ofBits_sixteenth : Ideal.ofBits .f32 0x3D800000#32 = (((1 : ℝ) / 16 : ℝ) : EReal) := by
  simp [Ideal.ofBits, Ideal.ieee, -EReal.coe_mul]; norm_num

/-- The word of sixteen. -/
theorem ofBits_sixteen : Ideal.ofBits .f32 0x41800000#32 = ((16 : ℝ) : EReal) := by
  simp [Ideal.ofBits, Ideal.ieee, -EReal.coe_mul]; norm_num

/-- The word of negative infinity. -/
theorem ofBits_negInf : Ideal.ofBits .f32 0xFF800000#32 = ⊥ := by
  simp [Ideal.ofBits, Ideal.ieee]

/-- The word of infinity. -/
theorem ofBits_inf : Ideal.ofBits .f32 0x7F800000#32 = ⊤ := by
  simp [Ideal.ofBits, Ideal.ieee]

/-- Division by sixteen is multiplication by one sixteenth. -/
theorem div_sixteen (x : EReal) : Ideal.div x ((16 : ℝ) : EReal) = x * (((1 : ℝ) / 16 : ℝ) : EReal) := by
  rw [Ideal.div, if_neg (by norm_num), ← EReal.coe_inv, one_div]

/-- An extended real is finite. -/
def IsReal (x : EReal) : Prop := ∃ r : ℝ, x = (r : EReal)

/-- A family of finite values is a family of reals. -/
theorem lift {α : Type} {f : α → EReal} (h : ∀ a, IsReal (f a)) : ∃ g : α → ℝ, f = fun a => (g a : EReal) :=
  ⟨fun a => (h a).choose, funext fun a => (h a).choose_spec⟩

/-- A sum of reals is taken in the reals. -/
theorem coe_sum {α : Type} (s : Finset α) (g : α → ℝ) : (∑ a ∈ s, (g a : EReal)) = ((∑ a ∈ s, g a : ℝ) : EReal) := by
  classical
  induction s using Finset.induction_on with
  | empty => simp
  | insert a s ha ih => rw [Finset.sum_insert ha, Finset.sum_insert ha, ih, EReal.coe_add]

/-- A sum of finite values is finite. -/
theorem fin_sum {α : Type} [Fintype α] {f : α → EReal} (h : ∀ a, IsReal (f a)) : IsReal (∑ a, f a) := by
  obtain ⟨g, rfl⟩ := lift h
  exact ⟨_, coe_sum _ g⟩

/-- So is a sum of two. -/
theorem fin_add {x y : EReal} (hx : IsReal x) (hy : IsReal y) : IsReal (x + y) := by
  obtain ⟨a, rfl⟩ := hx; obtain ⟨b, rfl⟩ := hy
  exact ⟨a + b, (EReal.coe_add a b).symm⟩

/-- So is a product. -/
theorem fin_mul {x y : EReal} (hx : IsReal x) (hy : IsReal y) : IsReal (x * y) := by
  obtain ⟨a, rfl⟩ := hx; obtain ⟨b, rfl⟩ := hy
  exact ⟨a * b, (EReal.coe_mul a b).symm⟩

/-- So is a projected row. -/
theorem fin_proj {x w b} (hx : ∀ d, IsReal (x d)) (hw : ∀ d n, IsReal (w d n)) (hb : ∀ n, IsReal (b n)) (n : Fin 2048) : IsReal (proj x w b n) :=
  fin_add (fin_sum fun d => fin_mul (hx d) (hw d n)) (hb n)

/-- Finite arrays give finite scores. -/
theorem fin_score {wq bq wk bk x} (hq : ∀ d n, IsReal (wq d n)) (hbq : ∀ n, IsReal (bq n)) (hk : ∀ d n, IsReal (wk d n))
    (hbk : ∀ n, IsReal (bk n)) (hx : ∀ d, IsReal (x d)) (h : Fin 8) : IsReal (score wq bq wk bk x h) :=
  fin_mul (fin_sum fun e => fin_mul (fin_proj hx hq hbq _) (fin_proj hx hk hbk _)) ⟨_, rfl⟩

/-- The largest of finite scores is one of them. -/
theorem fin_top {s : Fin 1024 → EReal} (h : ∀ r, IsReal (s r)) : IsReal (top s) := by
  have key : ∀ t : Finset (Fin 1024), t.Nonempty → IsReal (t.fold max ⊥ s) := by
    intro t
    induction t using Finset.induction_on with
    | empty => exact fun hn => absurd hn Finset.not_nonempty_empty
    | insert a t ha ih =>
      intro _
      rw [Finset.fold_insert ha]
      rcases t.eq_empty_or_nonempty with rfl | hn
      · rw [Finset.fold_empty, max_eq_left bot_le]
        exact h a
      · rcases max_choice (s a) (t.fold max ⊥ s) with e | e <;> rw [e]
        · exact h a
        · exact ih hn
  exact key _ Finset.univ_nonempty

/-- The weights are positive reals. -/
theorem wt_pos {s : Fin 1024 → EReal} (h : ∀ r, IsReal (s r)) : ∃ e : Fin 1024 → ℝ, (∀ r, 0 < e r) ∧ wt s = fun r => (e r : EReal) := by
  obtain ⟨g, hg⟩ := lift h
  obtain ⟨m, hm⟩ := fin_top h
  refine ⟨fun r => Real.exp (g r - m), fun r => Real.exp_pos _, funext fun r => ?_⟩
  unfold wt
  rw [hm, hg, ← EReal.coe_sub]
  rfl

/-- A nonnegative weight distributes over a sum whose last term may be infinite; the weights of the bias add up. -/
theorem sum_split (p y : Fin 1024 → ℝ) (hp : ∀ r, 0 ≤ p r) (b : EReal) (t : Finset (Fin 1024)) :
    (∑ r ∈ t, (p r : EReal) * ((y r : EReal) + b)) = ((∑ r ∈ t, p r * y r : ℝ) : EReal) + ((∑ r ∈ t, p r : ℝ) : EReal) * b := by
  induction t using Finset.induction_on with
  | empty => simp
  | insert a t ha ih =>
    rw [Finset.sum_insert ha, Finset.sum_insert ha, Finset.sum_insert ha, ih,
      EReal.left_distrib_of_nonneg_of_ne_top (EReal.coe_nonneg.2 (hp a)) (EReal.coe_ne_top _),
      EReal.coe_add, EReal.coe_add,
      EReal.right_distrib_of_nonneg (EReal.coe_nonneg.2 (hp a)) (EReal.coe_nonneg.2 (Finset.sum_nonneg fun r _ => hp r)),
      EReal.coe_mul]
    exact add_add_add_comm _ _ _ _

/-- Averaging rows and then projecting is projecting rows and then averaging. -/
theorem pooled_eq_proj (A : Args) (hx : ∀ t d, IsReal (A.x t d)) (hq : ∀ d n, IsReal (A.wq d n)) (hbq : ∀ n, IsReal (A.bq n))
    (hk : ∀ d n, IsReal (A.wk d n)) (hbk : ∀ n, IsReal (A.bk n)) (hv : ∀ d n, IsReal (A.wv d n)) (b : Fin 8) (n : Fin 2048) :
    pooledFirst A b n = projFirst A b n := by
  obtain ⟨e, he, hw⟩ := wt_pos (s := fun r => score A.wq A.bq A.wk A.bk (A.x (row b r)) (head n))
    fun r => fin_score hq hbq hk hbk (hx _) _
  obtain ⟨x, hX⟩ := lift (f := fun p : Fin 1024 × Fin 512 => A.x (row b p.1) p.2) fun p => hx _ _
  obtain ⟨w, hW⟩ := lift (f := fun d => A.wv d n) fun d => hv d n
  have hX' : ∀ r d, A.x (row b r) d = (x (r, d) : EReal) := fun r d => congrFun hX (r, d)
  have hW' : ∀ d, A.wv d n = (w d : EReal) := fun d => congrFun hW d
  have hD : 0 < ∑ r, e r := Finset.sum_pos (fun r _ => he r) Finset.univ_nonempty
  have hdiv : ∀ y : ℝ, Ideal.div (y : EReal) ((∑ r, e r : ℝ) : EReal) = ((y / ∑ r, e r : ℝ) : EReal) := fun y => by
    rw [Ideal.div, if_neg (by exact_mod_cast hD.ne'), ← EReal.coe_inv, ← EReal.coe_mul, div_eq_mul_inv]
  have hone : ∀ y : ℝ, Ideal.div 1 ((∑ r, e r : ℝ) : EReal) = ((1 / ∑ r, e r : ℝ) : EReal) := fun y => by
    rw [← EReal.coe_one]; exact hdiv 1
  unfold pooledFirst projFirst avg proj
  simp only [hw, hX', hW', coe_sum, hone 0, hdiv, ← EReal.coe_mul]
  rw [sum_split _ _ (fun r => (div_pos (he r) hD).le)]
  have h1 : ∑ r, e r / ∑ r, e r = 1 := by rw [← Finset.sum_div, div_self hD.ne']
  rw [h1, EReal.coe_one, one_mul]
  congr 2
  simp only [Finset.sum_mul, Finset.mul_sum]
  rw [Finset.sum_comm]
  refine Finset.sum_congr rfl fun r _ => Finset.sum_congr rfl fun d _ => ?_
  ring

end Cert.Pool

end
-- ==== Proof.Value.Pay.lean ====
module

public import proofs.«01_k».proof.Proof.Body.Vals
public import proofs.«01_k».proof.Proof.Value.Math
public import Idealize.ShloMosaic.Lib.Pointwise

@[expose] public section

noncomputable section

namespace Cert.KernelIdeal.Hand

open Cert.KernelIdeal.Gen
open Idealize.ShloMosaic
open Cert.Pool

/-- One head's column at an index: the product of the two projections summed over the head's columns. -/
theorem col_apply (x : FVec Ideal S2048x512 .bf16) (a b : Vec Ideal S512x256 .bf16) (p q : Vec Ideal S1x256 .f32) (r : Fin 2048) :
    k0_pay86 x a p b q (ix2 r 0) = ∑ e : Fin 256, ((∑ d : Fin 512, x (ix2 r d) * a (ix2 d e)) + p (ix2 0 e))
      * ((∑ d : Fin 512, x (ix2 r d) * b (ix2 d e)) + q (ix2 0 e)) := by
  pointwise [k0_pay86]

/-- The same column from the whole weights and biases, its 256 columns starting at those of head `h`. -/
theorem head_apply (x : Vec Ideal S2048x512 .f32) (wq wk : Vec Ideal S512x2048 .bf16) (bq bk : Vec Ideal S1x2048 .f32) (r : Fin 2048)
    (h : Fin 8) (o : ℕ) (ho : o = 256 * h.val) (iw : ∀ a : Fin 2, ![0, o] a + S512x256.size a ≤ S512x2048.size a)
    (ib : ∀ a : Fin 2, ![0, o] a + S1x256.size a ≤ S1x2048.size a) :
    k0_pay86 (F := Ideal) (k0_pay82 x) (View.ld wq (Rect.unit (s := S512x2048) ![0, o] S512x256.size iw)) (View.ld bq (Rect.unit (s := S1x2048) ![0, o] S1x256.size ib))
      (View.ld wk (Rect.unit (s := S512x2048) ![0, o] S512x256.size iw)) (View.ld bk (Rect.unit (s := S1x2048) ![0, o] S1x256.size ib)) (ix2 r 0)
      = ∑ e : Fin 256, proj (fun d => x (ix2 r d)) (fun d n => wq (ix2 d n)) (fun n => bq (ix2 0 n)) (col h e)
          * proj (fun d => x (ix2 r d)) (fun d n => wk (ix2 d n)) (fun n => bk (ix2 0 n)) (col h e) := by
  subst ho
  rw [col_apply]
  unfold proj col
  pointwise [k0_pay82]

/-- Eight columns side by side, at an index: the column the lane names. -/
theorem cat_apply (v : Fin 8 → FVec Ideal S2048x1 .f32) (r : Fin 2048) (h : Fin 8) :
    concatenate S2048x8 1 [⟨S2048x1, v 0⟩, ⟨S2048x1, v 1⟩, ⟨S2048x1, v 2⟩, ⟨S2048x1, v 3⟩, ⟨S2048x1, v 4⟩, ⟨S2048x1, v 5⟩, ⟨S2048x1, v 6⟩, ⟨S2048x1, v 7⟩]
      concatenates_S2048x1_S2048x1_S2048x1_S2048x1_S2048x1_S2048x1_S2048x1_S2048x1_S2048x8_d1 (ix2 r h) = v h (ix2 r 0) := by
  fin_cases h <;> pointwise

/-- The column of a head, whichever of the payloads computes it. -/
def headCol (x : Vec Ideal S2048x512 .f32) (wq wk : Vec Ideal S512x2048 .bf16) (bq bk : Vec Ideal S1x2048 .f32) (h : Fin 8) : FVec Ideal S2048x1 .f32 :=
  k0_pay86 (F := Ideal) (k0_pay82 x) (View.ld wq (Rect.unit (s := S512x2048) ![0, 256 * h.val] S512x256.size (by intro a; fin_cases a <;> simp <;> omega)))
    (View.ld bq (Rect.unit (s := S1x2048) ![0, 256 * h.val] S1x256.size (by intro a; fin_cases a <;> simp <;> omega)))
    (View.ld wk (Rect.unit (s := S512x2048) ![0, 256 * h.val] S512x256.size (by intro a; fin_cases a <;> simp <;> omega)))
    (View.ld bk (Rect.unit (s := S1x2048) ![0, 256 * h.val] S1x256.size (by intro a; fin_cases a <;> simp <;> omega)))

/-- The scores of a block at an index. -/
theorem scores_apply (x : Vec Ideal S2048x512 .f32) (wq wk : Vec Ideal S512x2048 .bf16) (bq bk : Vec Ideal S1x2048 .f32) (r : Fin 2048) (h : Fin 8) :
    scores x wq wk bq bk (ix2 r h) = score (fun d n => wq (ix2 d n)) (fun n => bq (ix2 0 n)) (fun d n => wk (ix2 d n)) (fun n => bk (ix2 0 n))
      (fun d => x (ix2 r d)) h := by
  have e : scores x wq wk bq bk = mulf (concatenate S2048x8 1 [⟨S2048x1, headCol x wq wk bq bk 0⟩, ⟨S2048x1, headCol x wq wk bq bk 1⟩, ⟨S2048x1, headCol x wq wk bq bk 2⟩, ⟨S2048x1, headCol x wq wk bq bk 3⟩, ⟨S2048x1, headCol x wq wk bq bk 4⟩, ⟨S2048x1, headCol x wq wk bq bk 5⟩, ⟨S2048x1, headCol x wq wk bq bk 6⟩, ⟨S2048x1, headCol x wq wk bq bk 7⟩]
      concatenates_S2048x1_S2048x1_S2048x1_S2048x1_S2048x1_S2048x1_S2048x1_S2048x1_S2048x8_d1) (broadcast S2048x8 (Scalar.ofBits .f32 0x3D800000#32)) := rfl
  rw [e]
  show concatenate _ _ _ _ (ix2 r h) * Ideal.ofBits .f32 0x3D800000#32 = _
  rw [cat_apply (headCol x wq wk bq bk), ofBits_sixteenth]
  exact congrArg (· * _) (head_apply x wq wk bq bk r h _ rfl _ _)

/-- The pooled rows of a block's first segment, at an index. -/
theorem pool0_apply (x : Vec Ideal S2048x512 .f32) (wq wk : Vec Ideal S512x2048 .bf16) (bq bk : Vec Ideal S1x2048 .f32) (h : Fin 8) (d : Fin 512) :
    pool0 x wq wk bq bk (ix2 h d) = avg (fun r => scores x wq wk bq bk (ix2 ⟨r.val, by omega⟩ h)) (fun r d => x (ix2 ⟨r.val, by omega⟩ d)) d := by
  unfold pool0 weights avg wt top
  pointwise [k0_pay1, k0_pay93, k0_pay94, k0_pay82]
  rw [ofBits_negInf]
  rfl

/-- The pooled rows of a block's second segment, at an index. -/
theorem pool1_apply (x : Vec Ideal S2048x512 .f32) (wq wk : Vec Ideal S512x2048 .bf16) (bq bk : Vec Ideal S1x2048 .f32) (h : Fin 8) (d : Fin 512) :
    pool1 x wq wk bq bk (ix2 h d) = avg (fun r => scores x wq wk bq bk (ix2 ⟨1024 + r.val, by omega⟩ h)) (fun r d => x (ix2 ⟨1024 + r.val, by omega⟩ d)) d := by
  unfold pool1 avg wt top
  pointwise [k0_pay2, k0_pay82]
  rw [ofBits_negInf]

/-- The projection at the last point, at an index. -/
theorem outp_apply (wv : Vec Ideal S512x2048 .f32) (bv : Vec Ideal S1x2048 .f32) (d : Vec Ideal S64x512 .f32) (b : Fin 8) (n : Fin 2048) :
    outp wv bv d (ix3 b 0 n) = (∑ k : Fin 512, d (ix2 ⟨8 * b.val + n.val / 256, by omega⟩ k) * wv (ix2 k n)) + bv (ix2 0 n) := by
  unfold outp
  simp only [← ix2_eq_valueIdx]
  pointwise [k0_pay3]

end Cert.KernelIdeal.Hand

end
-- ==== Proof.Value.Kernel.lean ====
module

public import proofs.«01_k».proof.Proof.Value.Run
public import proofs.«01_k».proof.Proof.Value.Pay

@[expose] public section

noncomputable section

namespace Cert.KernelIdeal.Hand

open Cert.KernelIdeal.Gen
open Idealize.ShloMosaic Idealize.ShloMosaic.TcCoe
open Cert.Pool

variable (m : (ℓ : Loc nD τ sig) → Buf (Elt Ideal) ℓ)

/-- The arrays a device is given, by coordinates. -/
def args (c : Dev nD) : Args where
  x t d := (m ((c : Thread nD τ).loc main_arg0) : Vec Ideal S8192x512 .f32) (ix2 t d)
  wq d n := (m ((c : Thread nD τ).loc main_arg1) : Vec Ideal S512x2048 .f32) (ix2 d n)
  bq n := (m ((c : Thread nD τ).loc main_arg2) : Vec Ideal S2048 .f32) (ix1 n)
  wk d n := (m ((c : Thread nD τ).loc main_arg3) : Vec Ideal S512x2048 .f32) (ix2 d n)
  bk n := (m ((c : Thread nD τ).loc main_arg4) : Vec Ideal S2048 .f32) (ix1 n)
  wv d n := (m ((c : Thread nD τ).loc main_arg5) : Vec Ideal S512x2048 .f32) (ix2 d n)
  bv n := (m ((c : Thread nD τ).loc main_arg6) : Vec Ideal S2048 .f32) (ix1 n)

/-- The rounded copy of the query weights is the query weights. -/
theorem wq_apply (c : Dev nD) (d : Fin 512) (n : Fin 2048) : wq m c (ix2 d n) = (args m c).wq d n := by
  unfold wq args
  rw [iblk1]
  pointwise [k0_pay80]

/-- The rounded copy of the key weights is the key weights. -/
theorem wk_apply (c : Dev nD) (d : Fin 512) (n : Fin 2048) : wk m c (ix2 d n) = (args m c).wk d n := by
  unfold wk args
  rw [iblk2]
  pointwise [k0_pay81]

/-- A row of a point's block is a row of the segment it is in. -/
theorem x_apply (c : Dev nD) (t : Fin cfg0.N) (r : Fin 2048) (d : Fin 512) (b : Fin 8) (q : Fin 1024)
    (h : 2048 * t.val + r.val = 1024 * b.val + q.val) : (iblk m c 0 t : Vec Ideal S2048x512 .f32) (ix2 r d) = (args m c).x (row b q) d := by
  have hb := (row b q).isLt
  have e : (⟨2048 * t.val + r.val, by omega⟩ : Fin 8192) = row b q := Fin.ext h
  rw [ix2_eq_valueIdx, iblk0 m c t r d (by omega), e, ← ix2_eq_valueIdx]
  rfl

/-- A score of a point's block is a score of the segment it is in. -/
theorem score_apply (c : Dev nD) (t : Fin cfg0.N) (r : Fin 2048) (h : Fin 8) (b : Fin 8) (q : Fin 1024)
    (e : 2048 * t.val + r.val = 1024 * b.val + q.val) :
    scores (F := Ideal) (iblk m c 0 t) (wq m c) (wk m c) (iblk m c 4 t) (iblk m c 5 t) (ix2 r h)
      = score (args m c).wq (args m c).bq (args m c).wk (args m c).bk ((args m c).x (row b q)) h := by
  rw [scores_apply]
  simp only [wq_apply, wk_apply, x_apply m c t r _ b q e]
  simp only [ix2_eq_valueIdx, iblk4, iblk5]
  rfl

/-- A pooled row is the average of its segment's rows under its head. -/
theorem rows_apply (c : Dev nD) (b h : Fin 8) (k : Fin 512) (i : Fin 64) (hi : i.val = 8 * b.val + h.val) :
    rows m c (ix2 i k) = avg (fun r => score (args m c).wq (args m c).bq (args m c).wk (args m c).bk ((args m c).x (row b r)) h)
      (fun r => (args m c).x (row b r)) k := by
  have hp : (ptOf (ix2 i k)).val = b.val / 2 := by show i.val / 16 = _; omega
  have hh : (⟨i.val % 8, Nat.mod_lt _ (by decide)⟩ : Fin 8) = h := Fin.ext (by show i.val % 8 = _; omega)
  unfold rows
  simp only [← ix2_eq_valueIdx]
  show (if i.val / 8 % 2 = 0 then row0 m c (ptOf (ix2 i k)) (ix2 ⟨i.val % 8, _⟩ k) else row1 m c (ptOf (ix2 i k)) (ix2 ⟨i.val % 8, _⟩ k)) = _
  rw [hh]
  split
  · unfold row0
    rw [pool0_apply]
    congr 1
    · funext r
      exact score_apply m c _ _ h b r (by rw [hp]; show _ + r.val = _; omega)
    · funext r d
      exact x_apply m c _ _ d b r (by rw [hp]; show _ + r.val = _; omega)
  · unfold row1
    rw [pool1_apply]
    congr 1
    · funext r
      exact score_apply m c _ _ h b r (by rw [hp]; show _ + (1024 + r.val) = _; omega)
    · funext r d
      exact x_apply m c _ _ d b r (by rw [hp]; show _ + (1024 + r.val) = _; omega)

/-- The kernel's result at an index. -/
theorem out_apply (c : Dev nD) (b : Fin 8) (n : Fin 2048) : out m c (ix2 b n) = pooledFirst (args m c) b n := by
  have e : out m c (ix2 b n) = result m c pt3 (ix3 b 0 n) := by
    unfold out
    pointwise
  rw [e]
  unfold result
  rw [outp_apply]
  unfold pooledFirst
  simp only [rows_apply m c b (head n) _ ⟨8 * b.val + n.val / 256, _⟩ rfl, iblk3]
  simp only [ix2_eq_valueIdx, iblk6]
  simp only [← ix2_eq_valueIdx]
  rfl

end Cert.KernelIdeal.Hand

end
-- ==== Proof.Value.Ref.lean ====
module

public import proofs.«01_k».proof.Proof.Gen.ReferenceIdeal.Run
public import proofs.«01_k».proof.Proof.Value.Math
public import Idealize.ShloMosaic.Lib.Pointwise
public import Idealize.ShloMosaic.Lib.FinSumWindow
public import Idealize.ShloMosaic.Lib.WordCmp
public import Idealize.ShloMosaic.Lib.Routing.Ops
public import Idealize.ShloMosaic.Lib.Routing.OpsPair

@[expose] public section

noncomputable section

namespace Cert.ReferenceIdeal.Hand

open Cert.ReferenceIdeal Cert.ReferenceIdeal.Gen
open Idealize.ShloMosaic
open Cert.Pool

/-! The reference's result, named piece by piece. -/

/-- The segment of each row: how many of the segment ends are not after it. -/
def seg (cu : IVec S9 32) : IVec S8192 32 :=
  Host.reduce IntOp.addi (extui 32 (cmpi .sle (broadcastInDim S8192x8 ![0, 1] bcast_S1x8_S8192x8_0_1 (broadcastInDim S1x8 ![1] bcast_S8_S1x8_1 (extractStridedSlice S8 ![1] cu slices_S9_S8_1)))
    (broadcastInDim S8192x8 ![0, 1] bcast_S8192x1_S8192x8_0_1 (broadcastInDim S8192x1 ![0] bcast_S8192_S8192x1_0 (iotaInDim S8192 32 0)))) natLt_1_32) (constantI S_ 32 0#32) reducesTo_S8192x8_S8192_d1 h_S_

/-- Every row projected, one row of columns per head. -/
def heads (x : FVec Ideal S8192x512 .f32) (w : FVec Ideal S512x2048 .f32) (b : FVec Ideal S2048 .f32) : FVec Ideal S8192x8x256 .f32 :=
  shapeCast _ (addf (Host.dotGeneral dot_S8192x512_S512x2048_S8192x2048_1_0_0_1_n_n none x w)
    (broadcastInDim S8192x2048 ![0, 1] bcast_S1x2048_S8192x2048_0_1 (broadcastInDim S1x2048 ![1] bcast_S2048_S1x2048_1 b))) shapeCasts_S8192x2048_S8192x8x256

/-- The score of each row under each head. -/
def scores (q k : FVec Ideal S8192x8x256 .f32) : FVec Ideal S8192x8 .f32 :=
  Host.divf (Host.reduceAdd (mulf q k) (constant S_ .f32 0x00000000#32) reducesTo_S8192x8x256_S8192x8_d2 h_S_) (broadcastInDim S8192x8 ![] bcast_S_S8192x8 (constant S_ .f32 0x41800000#32))

/-- The largest score of each segment under each head. -/
def tops (sg : IVec S8192 32) (s : FVec Ideal S8192x8 .f32) : FVec Ideal S8x8 .f32 :=
  Host.reduce FloatOps.maximumf (select (broadcastInDim S8192x8x8 ![0, 1, 2] bcast_S8192x8x1_S8192x8x8_0_1_2 (broadcastInDim S8192x8x1 ![0, 1] bcast_S8192x8_S8192x8x1_0_1
      (cmpi .eq (broadcastInDim S8192x8 ![0, 1] bcast_S8192x1_S8192x8_0_1 (broadcastInDim S8192x1 ![0] bcast_S8192_S8192x1_0 sg))
        (broadcastInDim S8192x8 ![0, 1] bcast_S1x8_S8192x8_0_1 (broadcastInDim S1x8 ![1] bcast_S8_S1x8_1 (iotaInDim S8 32 0))))))
    (broadcastInDim S8192x8x8 ![0, 1, 2] bcast_S8192x1x8_S8192x8x8_0_1_2 (broadcastInDim S8192x1x8 ![0, 2] bcast_S8192x8_S8192x1x8_0_2 s))
    (broadcastInDim S8192x8x8 ![] bcast_S_S8192x8x8 (id (constant S_ .f32 0xFF800000#32)))) (constant S_ .f32 0xFF800000#32) reducesTo_S8192x8x8_S8x8_d0 h_S_

/-- The segment of each row as the column an index is read from, a negative one counted from the end. -/
def wrap (sg : IVec S8192 32) : IVec S8192x1 32 :=
  broadcastInDim S8192x1 ![0] bcast_S8192_S8192x1_0 (select (cmpi .slt sg (broadcastInDim S8192 ![] bcast_S_S8192 (constantI S_ 32 0#32)))
    (addi sg (broadcastInDim S8192 ![] bcast_S_S8192 (constantI S_ 32 8#32))) sg)

/-- The exponential of each score, shifted by its segment's largest. -/
def exps (sg : IVec S8192 32) (s : FVec Ideal S8192x8 .f32) : FVec Ideal S8192x8 .f32 :=
  Host.exp (subf s (Host.gather gather_S8x8_S8192x1_S8192x8_1_0_n_n_0_1_18 (tops sg s) (wrap sg)))

/-- The exponentials of each segment summed. -/
def sums (sg : IVec S8192 32) (e : FVec Ideal S8192x8 .f32) : FVec Ideal S8x8 .f32 :=
  Host.scatterAdd scatter_S8x8_S8192x1_S8192x8_1_0_0_1 (broadcastInDim S8x8 ![] bcast_S_S8x8 (constant S_ .f32 0x00000000#32)) (broadcastInDim S8192x1 ![0] bcast_S8192_S8192x1_0 sg) e

/-- The weight of each row in its segment. -/
def attn (sg : IVec S8192 32) (e : FVec Ideal S8192x8 .f32) : FVec Ideal S8192x8 .f32 :=
  Host.divf e (Host.gather gather_S8x8_S8192x1_S8192x8_1_0_n_n_0_1_18 (sums sg e) (wrap sg))

/-- The weighted rows of each segment summed. -/
def pools (sg : IVec S8192 32) (a : FVec Ideal S8192x8 .f32) (v : FVec Ideal S8192x8x256 .f32) : FVec Ideal S8x8x256 .f32 :=
  Host.scatterAdd scatter_S8x8x256_S8192x1_S8192x8x256_12_0_0_1 (broadcastInDim S8x8x256 ![] bcast_S_S8x8x256 (constant S_ .f32 0x00000000#32)) (broadcastInDim S8192x1 ![0] bcast_S8192_S8192x1_0 sg)
    (mulf (broadcastInDim S8192x8x256 ![0, 1, 2] bcast_S8192x8x1_S8192x8x256_0_1_2 (broadcastInDim S8192x8x1 ![0, 1] bcast_S8192x8_S8192x8x1_0_1 a)) v)

/-- The reference's result of its eight arrays. -/
def fn (x : FVec Ideal S8192x512 .f32) (wq : FVec Ideal S512x2048 .f32) (bq : FVec Ideal S2048 .f32) (wk : FVec Ideal S512x2048 .f32) (bk : FVec Ideal S2048 .f32)
    (wv : FVec Ideal S512x2048 .f32) (bv : FVec Ideal S2048 .f32) (cu : IVec S9 32) : FVec Ideal S8x2048 .f32 :=
  shapeCast _ (pools (seg cu) (attn (seg cu) (exps (seg cu) (scores (heads x wq bq) (heads x wk bk)))) (heads x wv bv)) shapeCasts_S8x8x256_S8x2048

set_option maxRecDepth 8192 in
/-- The run's result is that function of the launch's arrays. -/
theorem res_eq (m : (ℓ : Loc nD τ sig) → Buf (Elt Ideal) ℓ) (c : Dev nD) : Value.res_out0 m c
    = fn (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := rfl

/-! The pieces at an index. -/

/-- A row's segment is the row over 1024, the segments being of 1024 rows each. -/
theorem seg_apply (cu : IVec S9 32) (hcu : ∀ i : Fin 9, cu (ix1 i) = BitVec.ofNat 32 (1024 * i.val)) (t : Fin 8192) :
    seg cu (ix1 t) = BitVec.ofNat 32 (t.val / 1024) := by
  have hc : Nat.count (fun q => 1024 * (q + 1) ≤ t.val) 8 = t.val / 1024 := by
    simp only [Nat.count_succ, Nat.count_zero]
    split_ifs <;> omega
  rw [← hc]
  refine Routing.reduce_count (by norm_num) _ _ _ _ t _ fun q => ?_
  have e : cmpi .sle (broadcastInDim S8192x8 ![0, 1] bcast_S1x8_S8192x8_0_1 (broadcastInDim S1x8 ![1] bcast_S8_S1x8_1 (extractStridedSlice S8 ![1] cu slices_S9_S8_1)))
      (broadcastInDim S8192x8 ![0, 1] bcast_S8192x1_S8192x8_0_1 (broadcastInDim S8192x1 ![0] bcast_S8192_S8192x1_0 (iotaInDim S8192 32 0))) (ix2 t q)
      = IntOp.cmpi .sle (cu (ix1 ⟨1 + q.val, by omega⟩)) (BitVec.ofNat 32 t.val) := by
    pointwise
  rw [← ix2_eq_valueIdx, e, hcu, WordCmp.cmpi_sle_ofNat_eq_one_iff (by simp; omega) (by simp; omega)]
  simp only
  omega

/-- A projected row at a head and a column of it. -/
theorem heads_apply (x : FVec Ideal S8192x512 .f32) (w : FVec Ideal S512x2048 .f32) (b : FVec Ideal S2048 .f32) (t : Fin 8192) (h : Fin 8) (e : Fin 256) :
    heads x w b (ix3 t h e) = proj (fun d => x (ix2 t d)) (fun d n => w (ix2 d n)) (fun n => b (ix1 n)) (col h e) := by
  have hc : col h e = ⟨h.val * 256 + e.val, by omega⟩ := Fin.ext (by show 256 * h.val + e.val = h.val * 256 + e.val; omega)
  rw [hc]
  unfold proj
  pointwise [heads]

/-- A row's score under a head. -/
theorem scores_apply (x : FVec Ideal S8192x512 .f32) (wq wk : FVec Ideal S512x2048 .f32) (bq bk : FVec Ideal S2048 .f32) (t : Fin 8192) (h : Fin 8) :
    scores (heads x wq bq) (heads x wk bk) (ix2 t h) = score (fun d n => wq (ix2 d n)) (fun n => bq (ix1 n)) (fun d n => wk (ix2 d n)) (fun n => bk (ix1 n)) (fun d => x (ix2 t d)) h := by
  have e : scores (heads x wq bq) (heads x wk bk) (ix2 t h) = Ideal.div (∑ e : Fin 256, heads x wq bq (ix3 t h e) * heads x wk bk (ix3 t h e)) (Ideal.ofBits .f32 0x41800000#32) := by
    pointwise [scores]
  rw [e, ofBits_sixteen, div_sixteen]
  simp only [heads_apply]
  rfl

/-- The maximum over all rows of the values of one segment's rows, the others at the bottom, is the maximum over the segment. -/
theorem fold_segment (f : Fin 8192 → EReal) (b : Fin 8) :
    Finset.univ.fold max ⊥ (fun t : Fin 8192 => if t.val / 1024 = b.val then f t else ⊥) = top fun r => f (row b r) := by
  show Finset.univ.sup _ = Finset.univ.sup _
  refine le_antisymm (Finset.sup_le fun t _ => ?_) (Finset.sup_le fun r _ => ?_)
  · split_ifs with h
    · have e : t = row b ⟨t.val % 1024, by omega⟩ := Fin.ext (by show t.val = 1024 * b.val + t.val % 1024; omega)
      rw [e]
      exact Finset.le_sup (f := fun r => f (row b r)) (Finset.mem_univ _)
    · exact bot_le
  · refine le_trans (le_of_eq ?_) (Finset.le_sup (f := fun t : Fin 8192 => if t.val / 1024 = b.val then f t else ⊥) (Finset.mem_univ (row b r)))
    exact (if_pos (by show (1024 * b.val + r.val) / 1024 = b.val; omega)).symm

/-- The sum of what lands at a place is the sum over the segment, when it is exactly the segment's rows that land there. -/
theorem sum_land {J : Type} [Fintype J] (P : J → Prop) [DecidablePred P] (f : J → EReal) (g : Fin 1024 → J) (hg : Function.Injective g)
    (hP : ∀ j, P j ↔ ∃ r, g r = j) : ∑ j ∈ Finset.univ.filter P, f j = ∑ r, f (g r) := by
  symm
  refine Finset.sum_bij (fun r _ => g r) (fun r _ => ?_) (fun r _ r' _ h => hg h) (fun j hj => ?_) fun _ _ => rfl
  · exact Finset.mem_filter.2 ⟨Finset.mem_univ _, (hP _).2 ⟨r, rfl⟩⟩
  · obtain ⟨r, h⟩ := (hP j).1 (Finset.mem_filter.1 hj).2
    exact ⟨r, Finset.mem_univ _, h⟩

/-- A sum scattered into a table, at an index: what the table held and what lands there. -/
theorem scatter_apply {s si u : Shape} (d : ScatterDims s si u) (x : FVec Ideal s .f32) (idx : IVec si 32) (upd : FVec Ideal u .f32) (i : s.Idx) :
    Host.scatterAdd d x idx upd i = x i + ∑ j ∈ Finset.univ.filter (fun j => d.resultIdx? j idx = some i), upd j := rfl

section Segments

variable (sg : IVec S8192 32) (hs : ∀ t : Fin 8192, sg (ix1 t) = BitVec.ofNat 32 (t.val / 1024))
include hs

/-- The largest score of a segment under a head. -/
theorem tops_apply (s : FVec Ideal S8192x8 .f32) (b h : Fin 8) : tops sg s (ix2 b h) = top fun r => s (ix2 (row b r) h) := by
  rw [← fold_segment (fun t => s (ix2 t h)) b]
  pointwise [tops]
  rw [ofBits_negInf]
  refine congrArg (fun f => Finset.fold max ⊥ f Finset.univ) (funext fun t => ?_)
  have hb : BitVec.ofNat 32 (t.val / 1024) = BitVec.ofNat 32 b.val ↔ t.val / 1024 = b.val := by
    rw [← BitVec.toNat_inj, BitVec.toNat_ofNat, BitVec.toNat_ofNat]
    omega
  rw [hs, WordCmp.cmpi_eq_eq, WordCmp.select_decide]
  simp only [hb]
  exact if_congr Iff.rfl rfl ofBits_negInf

/-- The column of segments is as it was, none being negative. -/
theorem wrap_apply (t : Fin 8192) : wrap sg (ix2 t 0) = BitVec.ofNat 32 (t.val / 1024) := by
  have e : wrap sg (ix2 t 0) = Scalar.select (IntOp.cmpi .slt (sg (ix1 t)) 0#32) (IntOp.addi (sg (ix1 t)) 8#32) (sg (ix1 t)) := by
    pointwise [wrap]
  rw [e, Routing.wrap_of_lt, hs]
  rw [hs, BitVec.toNat_ofNat]
  omega

/-- Reading a table of segments at a row: the row's segment. -/
theorem gather_apply (x : FVec Ideal S8x8 .f32) (b h : Fin 8) (r : Fin 1024) :
    Host.gather gather_S8x8_S8192x1_S8192x8_1_0_n_n_0_1_18 x (wrap sg) (ix2 (row b r) h) = x (ix2 b h) := by
  simp only [ix2_eq_valueIdx]
  refine Routing.gather_row _ rfl rfl rfl rfl rfl x (wrap sg) (row b r) h b ?_ (by norm_num)
  rw [← ix2_eq_valueIdx, wrap_apply sg hs]
  exact congrArg _ (by show (1024 * b.val + r.val) / 1024 = b.val; omega)

/-- A row's shifted exponential is its weight in the segment. -/
theorem exps_apply (s : FVec Ideal S8192x8 .f32) (b h : Fin 8) (r : Fin 1024) :
    exps sg s (ix2 (row b r) h) = wt (fun r => s (ix2 (row b r) h)) r := by
  unfold wt
  rw [← tops_apply sg hs, ← gather_apply sg hs (tops sg s) b h r]
  rfl

/-- The row's segment as a signed integer, read off the column of segments. -/
theorem toInt_seg (t : Fin 8192) : (broadcastInDim S8192x1 ![0] bcast_S8192_S8192x1_0 sg (ix2 t 0)).toInt = ((t.val / 1024 : ℕ) : ℤ) := by
  have e : broadcastInDim S8192x1 ![0] bcast_S8192_S8192x1_0 sg (ix2 t 0) = sg (ix1 t) := by pointwise
  have n : (BitVec.ofNat 32 (t.val / 1024)).toNat = t.val / 1024 := by rw [BitVec.toNat_ofNat]; omega
  rw [e, hs, BitVec.toInt_eq_toNat_of_lt (by omega), n]

/-- An update of the sums lands at its row's segment and at its own head. -/
theorem lands2 (j : S8192x8.Idx) (b h : Fin 8) :
    scatter_S8x8_S8192x1_S8192x8_1_0_0_1.resultIdx? j (broadcastInDim S8192x1 ![0] bcast_S8192_S8192x1_0 sg) = some (ix2 b h) ↔ ∃ r, ix2 (row b r) h = j := by
  obtain ⟨t, h', rfl⟩ : ∃ t h', j = ix2 t h' := ⟨_, _, eq_ix2 j⟩
  have e : scatter_S8x8_S8192x1_S8192x8_1_0_0_1.siIdx (ix2 t h') ⟨0, by decide⟩ = ix2 t 0 := by
    funext a; fin_cases a <;> rfl
  have e0 : scatter_S8x8_S8192x1_S8192x8_1_0_0_1.start (ix2 t h') (broadcastInDim S8192x1 ![0] bcast_S8192_S8192x1_0 sg) 0 = ((t.val / 1024 : ℕ) : ℤ) := by
    rw [← toInt_seg sg hs t, ← e]; rfl
  have e1 : scatter_S8x8_S8192x1_S8192x8_1_0_0_1.start (ix2 t h') (broadcastInDim S8192x1 ![0] bcast_S8192_S8192x1_0 sg) 1 = 0 := rfl
  have w0 : scatter_S8x8_S8192x1_S8192x8_1_0_0_1.window (ix2 t h') 0 = 0 := rfl
  have w1 : scatter_S8x8_S8192x1_S8192x8_1_0_0_1.window (ix2 t h') 1 = h'.val := rfl
  rw [ix2_eq_valueIdx b h, Routing.resultIdx?_ix2, e0, e1, w0, w1]
  constructor
  · rintro ⟨p, q⟩
    refine ⟨⟨t.val % 1024, by omega⟩, ?_⟩
    rw [show row b ⟨t.val % 1024, by omega⟩ = t from Fin.ext (by show 1024 * b.val + t.val % 1024 = t.val; omega), show h = h' from Fin.ext (by omega)]
  · rintro ⟨r, hr⟩
    have q0 : (row b r).val = t.val := congrArg Fin.val (congrFun hr 0)
    have q1 : h.val = h'.val := congrArg Fin.val (congrFun hr 1)
    have q2 : (row b r).val = 1024 * b.val + r.val := rfl
    omega

/-- The sums at a segment and a head. -/
theorem sums_apply (e : FVec Ideal S8192x8 .f32) (b h : Fin 8) : sums sg e (ix2 b h) = ∑ r : Fin 1024, e (ix2 (row b r) h) := by
  have z : broadcastInDim S8x8 ![] bcast_S_S8x8 (constant (F := Ideal) S_ .f32 0x00000000#32) (ix2 b h) = (0 : EReal) := by
    pointwise
  rw [sums, scatter_apply, z, zero_add]
  exact sum_land _ e (fun r => ix2 (row b r) h) (fun r r' q => Fin.ext (by
    have q0 : 1024 * b.val + r.val = 1024 * b.val + r'.val := congrArg Fin.val (congrFun q 0)
    omega)) fun j => lands2 sg hs j b h

/-- A row's weight in its segment. -/
theorem attn_apply (s : FVec Ideal S8192x8 .f32) (b h : Fin 8) (r : Fin 1024) :
    attn sg (exps sg s) (ix2 (row b r) h)
      = Ideal.div (wt (fun r => s (ix2 (row b r) h)) r) (∑ r', wt (fun r => s (ix2 (row b r) h)) r') := by
  rw [attn, ValueIdx.hostDivf_apply, gather_apply sg hs, sums_apply sg hs, exps_apply sg hs]
  simp only [exps_apply sg hs]

/-- An update of the pooled rows lands at its row's segment, at its own head and column. -/
theorem lands3 (j : S8192x8x256.Idx) (b h : Fin 8) (c : Fin 256) :
    scatter_S8x8x256_S8192x1_S8192x8x256_12_0_0_1.resultIdx? j (broadcastInDim S8192x1 ![0] bcast_S8192_S8192x1_0 sg) = some (ix3 b h c) ↔ ∃ r, ix3 (row b r) h c = j := by
  obtain ⟨t, h', c', rfl⟩ : ∃ t h' c', j = ix3 t h' c' := ⟨_, _, _, eq_ix3 j⟩
  have e : scatter_S8x8x256_S8192x1_S8192x8x256_12_0_0_1.siIdx (ix3 t h' c') ⟨0, by decide⟩ = ix2 t 0 := by
    funext a; fin_cases a <;> rfl
  have e0 : scatter_S8x8x256_S8192x1_S8192x8x256_12_0_0_1.start (ix3 t h' c') (broadcastInDim S8192x1 ![0] bcast_S8192_S8192x1_0 sg) 0 = ((t.val / 1024 : ℕ) : ℤ) := by
    rw [← toInt_seg sg hs t, ← e]; rfl
  have e1 : scatter_S8x8x256_S8192x1_S8192x8x256_12_0_0_1.start (ix3 t h' c') (broadcastInDim S8192x1 ![0] bcast_S8192_S8192x1_0 sg) 1 = 0 := rfl
  have e2 : scatter_S8x8x256_S8192x1_S8192x8x256_12_0_0_1.start (ix3 t h' c') (broadcastInDim S8192x1 ![0] bcast_S8192_S8192x1_0 sg) 2 = 0 := rfl
  have w0 : scatter_S8x8x256_S8192x1_S8192x8x256_12_0_0_1.window (ix3 t h' c') 0 = 0 := rfl
  have w1 : scatter_S8x8x256_S8192x1_S8192x8x256_12_0_0_1.window (ix3 t h' c') 1 = h'.val := rfl
  have w2 : scatter_S8x8x256_S8192x1_S8192x8x256_12_0_0_1.window (ix3 t h' c') 2 = c'.val := rfl
  rw [Routing.resultIdx?_eq_some]
  constructor
  · intro p
    have p0 := p 0
    have p1 := p 1
    have p2 := p 2
    rw [e0, w0] at p0
    rw [e1, w1] at p1
    rw [e2, w2] at p2
    have p0 : ((t.val / 1024 : ℕ) : ℤ) + ((0 : ℕ) : ℤ) = (b.val : ℤ) := p0
    have p1 : 0 + (h'.val : ℤ) = (h.val : ℤ) := p1
    have p2 : 0 + (c'.val : ℤ) = (c.val : ℤ) := p2
    refine ⟨⟨t.val % 1024, by omega⟩, ?_⟩
    rw [show row b ⟨t.val % 1024, by omega⟩ = t from Fin.ext (by show 1024 * b.val + t.val % 1024 = t.val; omega), show h = h' from Fin.ext (by omega),
      show c = c' from Fin.ext (by omega)]
  · rintro ⟨r, hr⟩ a
    have q0 : (row b r).val = t.val := congrArg Fin.val (congrFun hr 0)
    have q1 : h.val = h'.val := congrArg Fin.val (congrFun hr 1)
    have q2 : c.val = c'.val := congrArg Fin.val (congrFun hr 2)
    have q3 : (row b r).val = 1024 * b.val + r.val := rfl
    fin_cases a
    · exact (congrArg₂ (fun x (y : ℕ) => x + (y : ℤ)) e0 w0).trans (by show ((t.val / 1024 : ℕ) : ℤ) + ((0 : ℕ) : ℤ) = (b.val : ℤ); omega)
    · exact (congrArg₂ (fun x (y : ℕ) => x + (y : ℤ)) e1 w1).trans (by show 0 + (h'.val : ℤ) = (h.val : ℤ); omega)
    · exact (congrArg₂ (fun x (y : ℕ) => x + (y : ℤ)) e2 w2).trans (by show 0 + (c'.val : ℤ) = (c.val : ℤ); omega)

/-- The pooled rows at a segment, a head and a column. -/
theorem pools_apply (a : FVec Ideal S8192x8 .f32) (v : FVec Ideal S8192x8x256 .f32) (b h : Fin 8) (c : Fin 256) :
    pools sg a v (ix3 b h c) = ∑ r : Fin 1024, a (ix2 (row b r) h) * v (ix3 (row b r) h c) := by
  have z : broadcastInDim S8x8x256 ![] bcast_S_S8x8x256 (constant (F := Ideal) S_ .f32 0x00000000#32) (ix3 b h c) = (0 : EReal) := by
    pointwise
  have u : ∀ t : Fin 8192, mulf (broadcastInDim S8192x8x256 ![0, 1, 2] bcast_S8192x8x1_S8192x8x256_0_1_2 (broadcastInDim S8192x8x1 ![0, 1] bcast_S8192x8_S8192x8x1_0_1 a)) v (ix3 t h c)
      = a (ix2 t h) * v (ix3 t h c) := fun t => by
    pointwise
  rw [pools, scatter_apply, z, zero_add]
  refine (sum_land _ _ (fun r => ix3 (row b r) h c) (fun r r' q => Fin.ext (by
    have q0 : 1024 * b.val + r.val = 1024 * b.val + r'.val := congrArg Fin.val (congrFun q 0)
    omega)) fun j => lands3 sg hs j b h c).trans ?_
  exact Finset.sum_congr rfl fun r _ => u _

end Segments

/-- The reference's result at an index: the projected rows of the segment averaged. -/
theorem fn_apply (x : FVec Ideal S8192x512 .f32) (wq : FVec Ideal S512x2048 .f32) (bq : FVec Ideal S2048 .f32) (wk : FVec Ideal S512x2048 .f32) (bk : FVec Ideal S2048 .f32)
    (wv : FVec Ideal S512x2048 .f32) (bv : FVec Ideal S2048 .f32) (cu : IVec S9 32) (hcu : ∀ i : Fin 9, cu (ix1 i) = BitVec.ofNat 32 (1024 * i.val)) (b : Fin 8) (n : Fin 2048) :
    fn x wq bq wk bk wv bv cu (ix2 b n) = projFirst ⟨fun t d => x (ix2 t d), fun d n => wq (ix2 d n), fun n => bq (ix1 n), fun d n => wk (ix2 d n), fun n => bk (ix1 n),
      fun d n => wv (ix2 d n), fun n => bv (ix1 n)⟩ b n := by
  have hs := seg_apply cu hcu
  have e : fn x wq bq wk bk wv bv cu (ix2 b n)
      = pools (seg cu) (attn (seg cu) (exps (seg cu) (scores (heads x wq bq) (heads x wk bk)))) (heads x wv bv) (ix3 b (head n) ⟨n.val % 256, by omega⟩) := by
    unfold head
    pointwise [fn]
  have hc : col (head n) ⟨n.val % 256, by omega⟩ = n := Fin.ext (by show 256 * (n.val / 256) + n.val % 256 = n.val; omega)
  rw [e, pools_apply (seg cu) hs]
  simp only [attn_apply (seg cu) hs, scores_apply, heads_apply, hc]
  rfl

end Cert.ReferenceIdeal.Hand
-- ==== Proof.Value.Pre.lean ====
module

public import proofs.«01_k».proof.Defs
public import proofs.«01_k».proof.Proof.Gen.Pre_inputs
public import proofs.«01_k».proof.Proof.Value.Kernel
public import proofs.«01_k».proof.Proof.Value.Ref

@[expose] public section

noncomputable section

namespace Cert.KernelIdeal.Hand

open Cert.KernelIdeal Cert.KernelIdeal.Gen
open Idealize.ShloMosaic Idealize.SL.Sem
open Cert.Pool

/-- What is less than infinity in absolute value is finite. -/
theorem isReal_of_abs (x : EReal) (h : Ideal.cmp .olt (max x (-x)) (Ideal.ofBits .f32 0x7F800000#32) = 1#1) : IsReal x := by
  rw [ofBits_inf] at h
  induction x using EReal.rec with
  | coe r => exact ⟨r, rfl⟩
  | bot => simp [Ideal.cmp] at h
  | top => simp [Ideal.cmp] at h

/-- An array that passes the test of finiteness has finite entries. -/
theorem isReal_of_all {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) : IsReal (x i) :=
  isReal_of_abs (x i) (congrFun h i)

variable (m : (ℓ : Loc nD τ sig) → Buf (Elt Ideal) ℓ)

/-- The segments start at the multiples of 1024 when the precondition holds. -/
theorem starts (hp : Pre_KernelIdeal_inputs m) (c : Dev nD) (i : Fin 9) :
    (m ((c.tc : Thread nD τ).loc main_arg7) : IVec S9 32) (ix1 i) = BitVec.ofNat 32 (1024 * i.val) := by
  have h := congrFun (hp c).2.2.2.2.2.2 (ix1 i)
  have e : IntOp.cmpi .eq ((m ((c.tc : Thread nD τ).loc main_arg7) : IVec S9 32) (ix1 i)) (BitVec.ofNat 32 i.val * 1024#32) = 1#1 := h
  rw [WordCmp.cmpi_eq_eq] at e
  have q : (m ((c.tc : Thread nD τ).loc main_arg7) : IVec S9 32) (ix1 i) = BitVec.ofNat 32 i.val * 1024#32 := by
    by_contra n
    simp [n] at e
  rw [q, Nat.mul_comm, BitVec.ofNat_mul]

/-- The two results are one array when the precondition holds. -/
theorem out_eq (hp : Pre_KernelIdeal_inputs m) (c : Dev nD) : out m c
    = Cert.ReferenceIdeal.Hand.fn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  obtain ⟨h0, h1, h2, h3, h4, h5, -⟩ := hp c
  funext j
  obtain ⟨b, n, rfl⟩ : ∃ b n, j = ix2 b n := ⟨_, _, eq_ix2 j⟩
  rw [out_apply, Cert.ReferenceIdeal.Hand.fn_apply _ _ _ _ _ _ _ _ (starts m hp c)]
  exact pooled_eq_proj (args m c) (fun t d => isReal_of_all _ _ h0 (ix2 t d)) (fun d n => isReal_of_all _ _ h1 (ix2 d n)) (fun n => isReal_of_all _ _ h2 (ix1 n))
    (fun d n => isReal_of_all _ _ h3 (ix2 d n)) (fun n => isReal_of_all _ _ h4 (ix1 n)) (fun d n => isReal_of_all _ _ h5 (ix2 d n)) b n

end Cert.KernelIdeal.Hand

end
-- ==== Proof.lean ====
/- The claims of this directory: three programs run to the end and leave their arguments alone, the kernel's own printing and
   its idealized one are one program, and over the extended reals the kernel and the reference end with one array. -/
module

public import proofs.«01_k».proof.Defs
public import proofs.«01_k».proof.Proof.Same
public import proofs.«01_k».proof.Proof.Gen.ReferenceIdeal
public import proofs.«01_k».proof.Proof.Gen.ReferenceIdeal.Run
public import proofs.«01_k».proof.Proof.Gen.Pre_inputs
public import proofs.«01_k».proof.Proof.Value.Run
public import proofs.«01_k».proof.Proof.Value.Pre

@[expose] public section

noncomputable section

namespace Cert.Proof

open Idealize.ShloMosaic Idealize.SL.Sem

/-- The kernel's own program runs to the end, its arguments and its counters as they were: it is the idealized printing's
    program, at the bit-level floats. -/
theorem frame_kernel : Cert.quiescent_Kernel := by
  intro m g _
  show θ_run (Cert.Kernel.defs (F := Bits)) _ _ _
  rw [Cert.KernelIdeal.Hand.same_defs]
  exact Cert.KernelIdeal.Hand.frame (F := Bits) m g

/-- The idealized kernel's program runs to the end, its arguments and its counters as they were. -/
theorem frame_ideal : Cert.quiescent_KernelIdeal :=
  fun m g _ => Cert.KernelIdeal.Hand.frame m g

/-- The reference runs to the end with its arguments as they were; it has no counters. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

/-- From equal arguments the kernel and the reference end with one array over the extended reals, where the precondition holds. -/
theorem value : Cert.algebraic_KernelIdeal_ReferenceIdeal_pre_inputs := by
  intro m g m' g' hp ha
  refine ⟨fun c => Cert.KernelIdeal.Hand.out m c, Cert.KernelIdeal.Hand.value_run m g,
    (θ_run Cert.ReferenceIdeal.defs _ _).mono (fun r h c => ⟨(h c).1.trans ?_, (h c).2⟩) (Cert.ReferenceIdeal.Value.run m' g')⟩
  obtain ⟨a0, a1, a2, a3, a4, a5, a6, a7⟩ := ha c
  refine (Cert.ReferenceIdeal.Hand.res_eq m' c).trans ?_
  rw [a0, a1, a2, a3, a4, a5, a6, a7]
  exact (Cert.KernelIdeal.Hand.out_eq m hp c).symm

/-- Everything claimed of the directory. -/
theorem claim : Cert.Claim := ⟨Cert.Kernel.Gen.facts, Cert.KernelIdeal.Gen.facts, Cert.ReferenceIdeal.Gen.facts, Cert.Pre_inputs.Gen.facts,
  frame_kernel, frame_ideal, fun m g _ => Cert.KernelIdeal.Hand.frame m g, frame_reference,
  fun m g _ => frame_reference m g trivial, trivial, value⟩

end Cert.Proof

end
